-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_ones [hPre_mask_ones : Cert.Pre_mask_ones.Facts] (m : (ℓ : Loc Cert.KernelIdeal.nD Cert.KernelIdeal.τ Cert.KernelIdeal.sig) → Buf (Elt Ideal) ℓ) : Prop :=
  ∀ c : Dev Cert.KernelIdeal.nD,
    (Cert.Pre_mask_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_ones [hPre_mask_ones : Cert.Pre_mask_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_mask_ones [hKernelIdeal : Cert.KernelIdeal.Facts] [hPre_mask_ones : Cert.Pre_mask_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_mask_ones [hReferenceIdeal : Cert.ReferenceIdeal.Facts] [hPre_mask_ones : Cert.Pre_mask_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_mask_ones [hKernelIdeal : Cert.KernelIdeal.Facts] [hReferenceIdeal : Cert.ReferenceIdeal.Facts] [hPre_mask_ones : Cert.Pre_mask_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v13_15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_mask_ones : Cert.Pre_mask_ones.Facts),
    quiescent_Kernel (hKernel := hKernel)
    ∧ quiescent_KernelIdeal (hKernelIdeal := hKernelIdeal)
    ∧ quiescent_KernelIdeal_pre_mask_ones (hKernelIdeal := hKernelIdeal) (hPre_mask_ones := hPre_mask_ones)
    ∧ quiescent_ReferenceIdeal (hReferenceIdeal := hReferenceIdeal)
    ∧ quiescent_ReferenceIdeal_pre_mask_ones (hReferenceIdeal := hReferenceIdeal) (hPre_mask_ones := hPre_mask_ones)
    ∧ preserves_Kernel_KernelIdeal
    ∧ algebraic_KernelIdeal_ReferenceIdeal_pre_mask_ones (hKernelIdeal := hKernelIdeal) (hReferenceIdeal := hReferenceIdeal) (hPre_mask_ones := hPre_mask_ones)
-- ==== Pre_mask_ones.lean ====
abbrev S8x255x1024 : Shape := ⟨3, ![8, 255, 1024]⟩
abbrev S8x255 : Shape := ⟨2, ![8, 255]⟩
abbrev S_ : Shape := ⟨0, ![]⟩
abbrev S1x1024 : Shape := ⟨2, ![1, 1024]⟩
abbrev S256x1024 : Shape := ⟨2, ![256, 1024]⟩
abbrev S8x1024 : Shape := ⟨2, ![8, 1024]⟩
abbrev S8x1024x3072 : Shape := ⟨3, ![8, 1024, 3072]⟩
abbrev S8x3072 : Shape := ⟨2, ![8, 3072]⟩
abbrev S8x1024x1024 : Shape := ⟨3, ![8, 1024, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S1024 : Shape := ⟨1, ![1024]⟩

class Facts : Prop where
  bcast_S_S8x255 : S_.BroadcastsInDim S8x255 (![] : Fin 0 → Fin S8x255.rank)

variable [Facts]

def fn {F : FTy → Type} [FloatOps F] (main_arg0 : FVec F S8x255x1024 .f32) (main_arg1 : IVec S8x255 32) (main_arg2 : IVec S_ 32) (main_arg3 : FVec F S1x1024 .f32) (main_arg4 : FVec F S256x1024 .f32) (main_arg5 : FVec F S8x1024 .f32) (main_arg6 : FVec F S8x1024 .f32) (main_arg7 : FVec F S8x1024x3072 .f32) (main_arg8 : FVec F S8x3072 .f32) (main_arg9 : FVec F S8x1024x1024 .f32) (main_arg10 : FVec F S8x1024 .f32) (main_arg11 : FVec F S8x1024 .f32) (main_arg12 : FVec F S8x1024 .f32) (main_arg13 : FVec F S8x1024x4096 .f32) (main_arg14 : FVec F S8x4096 .f32) (main_arg15 : FVec F S8x4096x1024 .f32) (main_arg16 : FVec F S8x1024 .f32) (main_arg17 : FVec F S1024 .f32) (main_arg18 : FVec F S1024 .f32) : IVec S8x255 1 :=
  let main_c : IVec S_ 32 := constantI S_ 32 1#32
  let main_v0 : IVec S8x255 32 := broadcastInDim S8x255 ![] bcast_S_S8x255 main_c
  let main_v1 : IVec S8x255 1 := cmpi .eq main_arg1 main_v0
  main_v1
-- ==== Kernel.lean ====
abbrev S8x255x1024 : Shape := ⟨3, ![8, 255, 1024]⟩
abbrev S8x255 : Shape := ⟨2, ![8, 255]⟩
abbrev S_ : Shape := ⟨0, ![]⟩
abbrev S1x1024 : Shape := ⟨2, ![1, 1024]⟩
abbrev S256x1024 : Shape := ⟨2, ![256, 1024]⟩
abbrev S8x1024 : Shape := ⟨2, ![8, 1024]⟩
abbrev S8x1024x3072 : Shape := ⟨3, ![8, 1024, 3072]⟩
abbrev S8x3072 : Shape := ⟨2, ![8, 3072]⟩
abbrev S8x1024x1024 : Shape := ⟨3, ![8, 1024, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S1024 : Shape := ⟨1, ![1024]⟩
abbrev S1x1x1024 : Shape := ⟨3, ![1, 1, 1024]⟩
abbrev S8x1x1024 : Shape := ⟨3, ![8, 1, 1024]⟩
abbrev S8x256x1024 : Shape := ⟨3, ![8, 256, 1024]⟩
abbrev S8x1x3072 : Shape := ⟨3, ![8, 1, 3072]⟩
abbrev S8x1x4096 : Shape := ⟨3, ![8, 1, 4096]⟩
abbrev S8x8x16x256x256 : Shape := ⟨5, ![8, 8, 16, 256, 256]⟩
abbrev S1x256x1024 : Shape := ⟨3, ![1, 256, 1024]⟩
abbrev S1x1024x3072 : Shape := ⟨3, ![1, 1024, 3072]⟩
abbrev S1x1x3072 : Shape := ⟨3, ![1, 1, 3072]⟩
abbrev S1x1024x1024 : Shape := ⟨3, ![1, 1024, 1024]⟩
abbrev S1x1x16x256x256 : Shape := ⟨5, ![1, 1, 16, 256, 256]⟩
abbrev S256x3072 : Shape := ⟨2, ![256, 3072]⟩
abbrev S1024x256 : Shape := ⟨2, ![1024, 256]⟩
abbrev S256 : Shape := ⟨1, ![256]⟩
abbrev S256x1 : Shape := ⟨2, ![256, 1]⟩
abbrev S1024x3072 : Shape := ⟨2, ![1024, 3072]⟩
abbrev S1x3072 : Shape := ⟨2, ![1, 3072]⟩
abbrev S256x64 : Shape := ⟨2, ![256, 64]⟩
abbrev S256x256 : Shape := ⟨2, ![256, 256]⟩
abbrev S1x1x1x256x256 : Shape := ⟨5, ![1, 1, 1, 256, 256]⟩
abbrev S64x256 : Shape := ⟨2, ![64, 256]⟩
abbrev S1024x1024 : Shape := ⟨2, ![1024, 1024]⟩
abbrev S1x1024x4096 : Shape := ⟨3, ![1, 1024, 4096]⟩
abbrev S1x1x4096 : Shape := ⟨3, ![1, 1, 4096]⟩
abbrev S1x4096x1024 : Shape := ⟨3, ![1, 4096, 1024]⟩
abbrev S1x1024x2048 : Shape := ⟨3, ![1, 1024, 2048]⟩
abbrev S1024x2048 : Shape := ⟨2, ![1024, 2048]⟩
abbrev S256x2048 : Shape := ⟨2, ![256, 2048]⟩
abbrev S1x1x2048 : Shape := ⟨3, ![1, 1, 2048]⟩
abbrev S1x2048 : Shape := ⟨2, ![1, 2048]⟩
abbrev S1x2048x1024 : Shape := ⟨3, ![1, 2048, 1024]⟩
abbrev S2048x1024 : Shape := ⟨2, ![2048, 1024]⟩
abbrev S1 : Shape := ⟨1, ![1]⟩
abbrev S1x1 : Shape := ⟨2, ![1, 1]⟩

abbrev nBuf : Space → Nat
  | .hbm => 58
  | .vmem => 205
  | .smem => 0
  | _ => 0

abbrev vmemTy0_0 (i : Nat) : BufTy := match i % 128 with
  | 0 => ⟨S1x256x1024, .f32⟩
  | 1 => ⟨S1x256x1024, .f32⟩
  | 2 => ⟨S256x1024, .f32⟩
  | 3 => ⟨S1x1x1024, .f32⟩
  | 4 => ⟨S1x1x1024, .f32⟩
  | 5 => ⟨S1x1024x3072, .f32⟩
  | 6 => ⟨S1x1x3072, .f32⟩
  | 7 => ⟨S1x1024x1024, .f32⟩
  | 8 => ⟨S1x1x1024, .f32⟩
  | 9 => ⟨S1x256x1024, .f32⟩
  | 10 => ⟨S1x256x1024, .f32⟩
  | 11 => ⟨S1x1x16x256x256, .f32⟩
  | 12 => ⟨S1x1x16x256x256, .f32⟩
  | 13 => ⟨S256x3072, .f32⟩
  | 14 => ⟨S1024x256, .f32⟩
  | 15 => ⟨S1x256x1024, .f32⟩
  | 16 => ⟨S1x256x1024, .f32⟩
  | 17 => ⟨S1x1x1024, .f32⟩
  | 18 => ⟨S1x1x1024, .f32⟩
  | 19 => ⟨S1x1024x4096, .f32⟩
  | 20 => ⟨S1x1x4096, .f32⟩
  | 21 => ⟨S1x4096x1024, .f32⟩
  | 22 => ⟨S1x1x1024, .f32⟩
  | 23 => ⟨S1x256x1024, .f32⟩
  | 24 => ⟨S1x256x1024, .f32⟩
  | 25 => ⟨S256x1024, .f32⟩
  | 26 => ⟨S1x256x1024, .f32⟩
  | 27 => ⟨S1x256x1024, .f32⟩
  | 28 => ⟨S1x1x1024, .f32⟩
  | 29 => ⟨S1x1x1024, .f32⟩
  | 30 => ⟨S1x1024x3072, .f32⟩
  | 31 => ⟨S1x1x3072, .f32⟩
  | 32 => ⟨S1x1024x1024, .f32⟩
  | 33 => ⟨S1x1x1024, .f32⟩
  | 34 => ⟨S1x256x1024, .f32⟩
  | 35 => ⟨S1x256x1024, .f32⟩
  | 36 => ⟨S1x1x16x256x256, .f32⟩
  | 37 => ⟨S1x1x16x256x256, .f32⟩
  | 38 => ⟨S256x3072, .f32⟩
  | 39 => ⟨S1024x256, .f32⟩
  | 40 => ⟨S1x256x1024, .f32⟩
  | 41 => ⟨S1x256x1024, .f32⟩
  | 42 => ⟨S1x1x1024, .f32⟩
  | 43 => ⟨S1x1x1024, .f32⟩
  | 44 => ⟨S1x1024x4096, .f32⟩
  | 45 => ⟨S1x1x4096, .f32⟩
  | 46 => ⟨S1x4096x1024, .f32⟩
  | 47 => ⟨S1x1x1024, .f32⟩
  | 48 => ⟨S1x256x1024, .f32⟩
  | 49 => ⟨S1x256x1024, .f32⟩
  | 50 => ⟨S256x1024, .f32⟩
  | 51 => ⟨S1x256x1024, .f32⟩
  | 52 => ⟨S1x256x1024, .f32⟩
  | 53 => ⟨S1x1x1024, .f32⟩
  | 54 => ⟨S1x1x1024, .f32⟩
  | 55 => ⟨S1x1024x3072, .f32⟩
  | 56 => ⟨S1x1x3072, .f32⟩
  | 57 => ⟨S1x1024x1024, .f32⟩
  | 58 => ⟨S1x1x1024, .f32⟩
  | 59 => ⟨S1x256x1024, .f32⟩
  | 60 => ⟨S1x256x1024, .f32⟩
  | 61 => ⟨S1x1x16x256x256, .f32⟩
  | 62 => ⟨S1x1x16x256x256, .f32⟩
  | 63 => ⟨S256x3072, .f32⟩
  | 64 => ⟨S1024x256, .f32⟩
  | 65 => ⟨S1x256x1024, .f32⟩
  | 66 => ⟨S1x256x1024, .f32⟩
  | 67 => ⟨S1x1x1024, .f32⟩
  | 68 => ⟨S1x1x1024, .f32⟩
  | 69 => ⟨S1x1024x4096, .f32⟩
  | 70 => ⟨S1x1x4096, .f32⟩
  | 71 => ⟨S1x4096x1024, .f32⟩
  | 72 => ⟨S1x1x1024, .f32⟩
  | 73 => ⟨S1x256x1024, .f32⟩
  | 74 => ⟨S1x256x1024, .f32⟩
  | 75 => ⟨S256x1024, .f32⟩
  | 76 => ⟨S1x256x1024, .f32⟩
  | 77 => ⟨S1x256x1024, .f32⟩
  | 78 => ⟨S1x1x1024, .f32⟩
  | 79 => ⟨S1x1x1024, .f32⟩
  | 80 => ⟨S1x1024x3072, .f32⟩
  | 81 => ⟨S1x1x3072, .f32⟩
  | 82 => ⟨S1x1024x1024, .f32⟩
  | 83 => ⟨S1x1x1024, .f32⟩
  | 84 => ⟨S1x256x1024, .f32⟩
  | 85 => ⟨S1x256x1024, .f32⟩
  | 86 => ⟨S1x1x16x256x256, .f32⟩
  | 87 => ⟨S1x1x16x256x256, .f32⟩
  | 88 => ⟨S256x3072, .f32⟩
  | 89 => ⟨S1024x256, .f32⟩
  | 90 => ⟨S1x256x1024, .f32⟩
  | 91 => ⟨S1x256x1024, .f32⟩
  | 92 => ⟨S1x1x1024, .f32⟩
  | 93 => ⟨S1x1x1024, .f32⟩
  | 94 => ⟨S1x1024x4096, .f32⟩
  | 95 => ⟨S1x1x4096, .f32⟩
  | 96 => ⟨S1x4096x1024, .f32⟩
  | 97 => ⟨S1x1x1024, .f32⟩
  | 98 => ⟨S1x256x1024, .f32⟩
  | 99 => ⟨S1x256x1024, .f32⟩
  | 100 => ⟨S256x1024, .f32⟩
  | 101 => ⟨S1x256x1024, .f32⟩
  | 102 => ⟨S1x256x1024, .f32⟩
  | 103 => ⟨S1x1x1024, .f32⟩
  | 104 => ⟨S1x1x1024, .f32⟩
  | 105 => ⟨S1x1024x3072, .f32⟩
  | 106 => ⟨S1x1x3072, .f32⟩
  | 107 => ⟨S1x1024x1024, .f32⟩
  | 108 => ⟨S1x1x1024, .f32⟩
  | 109 => ⟨S1x256x1024, .f32⟩
  | 110 => ⟨S1x256x1024, .f32⟩
  | 111 => ⟨S1x1x16x256x256, .f32⟩
  | 112 => ⟨S1x1x16x256x256, .f32⟩
  | 113 => ⟨S256x3072, .f32⟩
  | 114 => ⟨S1024x256, .f32⟩
  | 115 => ⟨S1x256x1024, .f32⟩
  | 116 => ⟨S1x256x1024, .f32⟩
  | 117 => ⟨S1x1x1024, .f32⟩
  | 118 => ⟨S1x1x1024, .f32⟩
  | 119 => ⟨S1x1024x4096, .f32⟩
  | 120 => ⟨S1x1x4096, .f32⟩
  | 121 => ⟨S1x4096x1024, .f32⟩
  | 122 => ⟨S1x1x1024, .f32⟩
  | 123 => ⟨S1x256x1024, .f32⟩
  | 124 => ⟨S1x256x1024, .f32⟩
  | 125 => ⟨S256x1024, .f32⟩
  | 126 => ⟨S1x256x1024, .f32⟩
  | 127 => ⟨S1x256x1024, .f32⟩
  | _ => ⟨S8x255x1024, .f32⟩

abbrev vmemTy0_1 (i : Nat) : BufTy := match i % 128 with
  | 0 => ⟨S1x1x1024, .f32⟩
  | 1 => ⟨S1x1x1024, .f32⟩
  | 2 => ⟨S1x1024x3072, .f32⟩
  | 3 => ⟨S1x1x3072, .f32⟩
  | 4 => ⟨S1x1024x1024, .f32⟩
  | 5 => ⟨S1x1x1024, .f32⟩
  | 6 => ⟨S1x256x1024, .f32⟩
  | 7 => ⟨S1x256x1024, .f32⟩
  | 8 => ⟨S1x1x16x256x256, .f32⟩
  | 9 => ⟨S1x1x16x256x256, .f32⟩
  | 10 => ⟨S256x3072, .f32⟩
  | 11 => ⟨S1024x256, .f32⟩
  | 12 => ⟨S1x256x1024, .f32⟩
  | 13 => ⟨S1x256x1024, .f32⟩
  | 14 => ⟨S1x1x1024, .f32⟩
  | 15 => ⟨S1x1x1024, .f32⟩
  | 16 => ⟨S1x1024x4096, .f32⟩
  | 17 => ⟨S1x1x4096, .f32⟩
  | 18 => ⟨S1x4096x1024, .f32⟩
  | 19 => ⟨S1x1x1024, .f32⟩
  | 20 => ⟨S1x256x1024, .f32⟩
  | 21 => ⟨S1x256x1024, .f32⟩
  | 22 => ⟨S256x1024, .f32⟩
  | 23 => ⟨S1x256x1024, .f32⟩
  | 24 => ⟨S1x256x1024, .f32⟩
  | 25 => ⟨S1x1x1024, .f32⟩
  | 26 => ⟨S1x1x1024, .f32⟩
  | 27 => ⟨S1x1024x3072, .f32⟩
  | 28 => ⟨S1x1x3072, .f32⟩
  | 29 => ⟨S1x1024x1024, .f32⟩
  | 30 => ⟨S1x1x1024, .f32⟩
  | 31 => ⟨S1x256x1024, .f32⟩
  | 32 => ⟨S1x256x1024, .f32⟩
  | 33 => ⟨S1x1x16x256x256, .f32⟩
  | 34 => ⟨S1x1x16x256x256, .f32⟩
  | 35 => ⟨S256x3072, .f32⟩
  | 36 => ⟨S1024x256, .f32⟩
  | 37 => ⟨S1x256x1024, .f32⟩
  | 38 => ⟨S1x256x1024, .f32⟩
  | 39 => ⟨S1x1x1024, .f32⟩
  | 40 => ⟨S1x1x1024, .f32⟩
  | 41 => ⟨S1x1024x4096, .f32⟩
  | 42 => ⟨S1x1x4096, .f32⟩
  | 43 => ⟨S1x4096x1024, .f32⟩
  | 44 => ⟨S1x1x1024, .f32⟩
  | 45 => ⟨S1x256x1024, .f32⟩
  | 46 => ⟨S1x256x1024, .f32⟩
  | 47 => ⟨S256x1024, .f32⟩
  | 48 => ⟨S1x256x1024, .f32⟩
  | 49 => ⟨S1x256x1024, .f32⟩
  | 50 => ⟨S1x1x1024, .f32⟩
  | 51 => ⟨S1x1x1024, .f32⟩
  | 52 => ⟨S1x1024x3072, .f32⟩
  | 53 => ⟨S1x1x3072, .f32⟩
  | 54 => ⟨S1x1024x1024, .f32⟩
  | 55 => ⟨S1x1x1024, .f32⟩
  | 56 => ⟨S1x256x1024, .f32⟩
  | 57 => ⟨S1x256x1024, .f32⟩
  | 58 => ⟨S1x1x16x256x256, .f32⟩
  | 59 => ⟨S1x1x16x256x256, .f32⟩
  | 60 => ⟨S256x3072, .f32⟩
  | 61 => ⟨S1024x256, .f32⟩
  | 62 => ⟨S1x256x1024, .f32⟩
  | 63 => ⟨S1x256x1024, .f32⟩
  | 64 => ⟨S1x1x1024, .f32⟩
  | 65 => ⟨S1x1x1024, .f32⟩
  | 66 => ⟨S1x1024x4096, .f32⟩
  | 67 => ⟨S1x1x4096, .f32⟩
  | 68 => ⟨S1x4096x1024, .f32⟩
  | 69 => ⟨S1x1x1024, .f32⟩
  | 70 => ⟨S1x1024, .f32⟩
  | 71 => ⟨S1x1024, .f32⟩
  | 72 => ⟨S1x256x1024, .f32⟩
  | 73 => ⟨S1x256x1024, .f32⟩
  | 74 => ⟨S1x1x1024, .f32⟩
  | 75 => ⟨S1x1x1024, .f32⟩
  | 76 => ⟨S256x1024, .f32⟩
  | _ => ⟨S8x255x1024, .f32⟩

abbrev vmemTy (i : Nat) : BufTy := match i / 128 with
  | 0 => vmemTy0_0 i
  | 1 => vmemTy0_1 i
  | _ => ⟨S8x255x1024, .f32⟩

abbrev bufTy : (tb : Table) → Fin (tcTables nBuf tb) → BufTy
  | .hbm, ⟨0, _⟩ => ⟨S8x255x1024, .f32⟩
  | .hbm, ⟨1, _⟩ => ⟨S8x255, .i32⟩
  | .hbm, ⟨2, _⟩ => ⟨S_, .i32⟩
  | .hbm, ⟨3, _⟩ => ⟨S1x1024, .f32⟩
  | .hbm, ⟨4, _⟩ => ⟨S256x1024, .f32⟩
  | .hbm, ⟨5, _⟩ => ⟨S8x1024, .f32⟩
  | .hbm, ⟨6, _⟩ => ⟨S8x1024, .f32⟩
  | .hbm, ⟨7, _⟩ => ⟨S8x1024x3072, .f32⟩
  | .hbm, ⟨8, _⟩ => ⟨S8x3072, .f32⟩
  | .hbm, ⟨9, _⟩ => ⟨S8x1024x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024x4096, .f32⟩
  | .hbm, ⟨14, _⟩ => ⟨S8x4096, .f32⟩
  | .hbm, ⟨15, _⟩ => ⟨S8x4096x1024, .f32⟩
  | .hbm, ⟨16, _⟩ => ⟨S8x1024, .f32⟩
  | .hbm, ⟨17, _⟩ => ⟨S1024, .f32⟩
  | .hbm, ⟨18, _⟩ => ⟨S1024, .f32⟩
  | .hbm, ⟨19, _⟩ => ⟨S1x1x1024, .f32⟩
  | .hbm, ⟨20, _⟩ => ⟨S8x1x1024, .f32⟩
  | .hbm, ⟨21, _⟩ => ⟨S8x256x1024, .f32⟩
  | .hbm, ⟨22, _⟩ => ⟨S8x1x1024, .f32⟩
  | .hbm, ⟨23, _⟩ => ⟨S8x1x1024, .f32⟩
  | .hbm, ⟨24, _⟩ => ⟨S8x1x3072, .f32⟩
  | .hbm, ⟨25, _⟩ => ⟨S8x1x1024, .f32⟩
  | .hbm, ⟨26, _⟩ => ⟨S8x1x1024, .f32⟩
  | .hbm, ⟨27, _⟩ => ⟨S8x1x1024, .f32⟩
  | .hbm, ⟨28, _⟩ => ⟨S8x1x4096, .f32⟩
  | .hbm, ⟨29, _⟩ => ⟨S8x1x1024, .f32⟩
  | .hbm, ⟨30, _⟩ => ⟨S1x1024, .f32⟩
  | .hbm, ⟨31, _⟩ => ⟨S1x1024, .f32⟩
  | .hbm, ⟨32, _⟩ => ⟨S8x256x1024, .f32⟩
  | .hbm, ⟨33, _⟩ => ⟨S8x8x16x256x256, .f32⟩
  | .hbm, ⟨34, _⟩ => ⟨S8x256x1024, .f32⟩
  | .hbm, ⟨35, _⟩ => ⟨S8x256x1024, .f32⟩
  | .hbm, ⟨36, _⟩ => ⟨S8x8x16x256x256, .f32⟩
  | .hbm, ⟨37, _⟩ => ⟨S8x256x1024, .f32⟩
  | .hbm, ⟨38, _⟩ => ⟨S8x256x1024, .f32⟩
  | .hbm, ⟨39, _⟩ => ⟨S8x8x16x256x256, .f32⟩
  | .hbm, ⟨40, _⟩ => ⟨S8x256x1024, .f32⟩
  | .hbm, ⟨41, _⟩ => ⟨S8x256x1024, .f32⟩
  | .hbm, ⟨42, _⟩ => ⟨S8x8x16x256x256, .f32⟩
  | .hbm, ⟨43, _⟩ => ⟨S8x256x1024, .f32⟩
  | .hbm, ⟨44, _⟩ => ⟨S8x256x1024, .f32⟩
  | .hbm, ⟨45, _⟩ => ⟨S8x8x16x256x256, .f32⟩
  | .hbm, ⟨46, _⟩ => ⟨S8x256x1024, .f32⟩
  | .hbm, ⟨47, _⟩ => ⟨S8x256x1024, .f32⟩
  | .hbm, ⟨48, _⟩ => ⟨S8x8x16x256x256, .f32⟩
  | .hbm, ⟨49, _⟩ => ⟨S8x256x1024, .f32⟩
  | .hbm, ⟨50, _⟩ => ⟨S8x256x1024, .f32⟩
  | .hbm, ⟨51, _⟩ => ⟨S8x8x16x256x256, .f32⟩
  | .hbm, ⟨52, _⟩ => ⟨S8x256x1024, .f32⟩
  | .hbm, ⟨53, _⟩ => ⟨S8x256x1024, .f32⟩
  | .hbm, ⟨54, _⟩ => ⟨S8x8x16x256x256, .f32⟩
  | .hbm, ⟨55, _⟩ => ⟨S8x256x1024, .f32⟩
  | .hbm, ⟨56, _⟩ => ⟨S8x1x1024, .f32⟩
  | .hbm, ⟨57, _⟩ => ⟨S8x1024, .f32⟩
  | .local _ .vmem, ⟨i, _⟩ => vmemTy i
  | _, _ => ⟨S8x255x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 181 → Bool
  | ⟨i, _⟩ => dmaSemScopedAt i

abbrev sig : RefSig :=
  ofTc nBuf bufTy 0 181 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v22 : Ref sig .tc := ⟨.hbm, 46, rfl⟩
abbrev main_v23_0 : Ref sig .tc := ⟨.hbm, 47, rfl⟩
abbrev main_v23_1 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v28_0 : Ref sig .tc := ⟨.hbm, 55, rfl⟩
abbrev main_v28_1 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_scratch0 : Ref sig .tc := ⟨.vmem, 38, rfl⟩
abbrev cc2_scratch1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc3_scratch0 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg7_1 : Ref sig .tc := ⟨.vmem, 60, rfl⟩
abbrev cc4_stg8_0 : Ref sig .tc := ⟨.vmem, 61, rfl⟩
abbrev cc4_stg8_1 : Ref sig .tc := ⟨.vmem, 62, rfl⟩
abbrev cc4_scratch0 : Ref sig .tc := ⟨.vmem, 63, rfl⟩
abbrev cc4_scratch1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg2_0 : Ref sig .tc := ⟨.vmem, 68, rfl⟩
abbrev cc5_stg3_0 : Ref sig .tc := ⟨.vmem, 69, rfl⟩
abbrev cc5_stg4_0 : Ref sig .tc := ⟨.vmem, 70, rfl⟩
abbrev cc5_stg5_0 : Ref sig .tc := ⟨.vmem, 71, rfl⟩
abbrev cc5_stg6_0 : Ref sig .tc := ⟨.vmem, 72, rfl⟩
abbrev cc5_stg7_0 : Ref sig .tc := ⟨.vmem, 73, rfl⟩
abbrev cc5_stg7_1 : Ref sig .tc := ⟨.vmem, 74, rfl⟩
abbrev cc5_scratch0 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg4_0 : Ref sig .tc := ⟨.vmem, 81, rfl⟩
abbrev cc6_stg5_0 : Ref sig .tc := ⟨.vmem, 82, rfl⟩
abbrev cc6_stg6_0 : Ref sig .tc := ⟨.vmem, 83, rfl⟩
abbrev cc6_stg7_0 : Ref sig .tc := ⟨.vmem, 84, rfl⟩
abbrev cc6_stg7_1 : Ref sig .tc := ⟨.vmem, 85, rfl⟩
abbrev cc6_stg8_0 : Ref sig .tc := ⟨.vmem, 86, rfl⟩
abbrev cc6_stg8_1 : Ref sig .tc := ⟨.vmem, 87, rfl⟩
abbrev cc6_scratch0 : Ref sig .tc := ⟨.vmem, 88, rfl⟩
abbrev cc6_scratch1 : Ref sig .tc := ⟨.vmem, 89, rfl⟩
abbrev cc7_stg0_0 : Ref sig .tc := ⟨.vmem, 90, rfl⟩
abbrev cc7_stg0_1 : Ref sig .tc := ⟨.vmem, 91, rfl⟩
abbrev cc7_stg1_0 : Ref sig .tc := ⟨.vmem, 92, rfl⟩
abbrev cc7_stg2_0 : Ref sig .tc := ⟨.vmem, 93, rfl⟩
abbrev cc7_stg3_0 : Ref sig .tc := ⟨.vmem, 94, rfl⟩
abbrev cc7_stg4_0 : Ref sig .tc := ⟨.vmem, 95, rfl⟩
abbrev cc7_stg5_0 : Ref sig .tc := ⟨.vmem, 96, rfl⟩
abbrev cc7_stg6_0 : Ref sig .tc := ⟨.vmem, 97, rfl⟩
abbrev cc7_stg7_0 : Ref sig .tc := ⟨.vmem, 98, rfl⟩
abbrev cc7_stg7_1 : Ref sig .tc := ⟨.vmem, 99, rfl⟩
abbrev cc7_scratch0 : Ref sig .tc := ⟨.vmem, 100, rfl⟩
abbrev cc8_stg0_0 : Ref sig .tc := ⟨.vmem, 101, rfl⟩
abbrev cc8_stg0_1 : Ref sig .tc := ⟨.vmem, 102, rfl⟩
abbrev cc8_stg1_0 : Ref sig .tc := ⟨.vmem, 103, rfl⟩
abbrev cc8_stg2_0 : Ref sig .tc := ⟨.vmem, 104, rfl⟩
abbrev cc8_stg3_0 : Ref sig .tc := ⟨.vmem, 105, rfl⟩
abbrev cc8_stg4_0 : Ref sig .tc := ⟨.vmem, 106, rfl⟩
abbrev cc8_stg5_0 : Ref sig .tc := ⟨.vmem, 107, rfl⟩
abbrev cc8_stg6_0 : Ref sig .tc := ⟨.vmem, 108, rfl⟩
abbrev cc8_stg7_0 : Ref sig .tc := ⟨.vmem, 109, rfl⟩
abbrev cc8_stg7_1 : Ref sig .tc := ⟨.vmem, 110, rfl⟩
abbrev cc8_stg8_0 : Ref sig .tc := ⟨.vmem, 111, rfl⟩
abbrev cc8_stg8_1 : Ref sig .tc := ⟨.vmem, 112, rfl⟩
abbrev cc8_scratch0 : Ref sig .tc := ⟨.vmem, 113, rfl⟩
abbrev cc8_scratch1 : Ref sig .tc := ⟨.vmem, 114, rfl⟩
abbrev cc9_stg0_0 : Ref sig .tc := ⟨.vmem, 115, rfl⟩
abbrev cc9_stg0_1 : Ref sig .tc := ⟨.vmem, 116, rfl⟩
abbrev cc9_stg1_0 : Ref sig .tc := ⟨.vmem, 117, rfl⟩
abbrev cc9_stg2_0 : Ref sig .tc := ⟨.vmem, 118, rfl⟩
abbrev cc9_stg3_0 : Ref sig .tc := ⟨.vmem, 119, rfl⟩
abbrev cc9_stg4_0 : Ref sig .tc := ⟨.vmem, 120, rfl⟩
abbrev cc9_stg5_0 : Ref sig .tc := ⟨.vmem, 121, rfl⟩
abbrev cc9_stg6_0 : Ref sig .tc := ⟨.vmem, 122, rfl⟩
abbrev cc9_stg7_0 : Ref sig .tc := ⟨.vmem, 123, rfl⟩
abbrev cc9_stg7_1 : Ref sig .tc := ⟨.vmem, 124, rfl⟩
abbrev cc9_scratch0 : Ref sig .tc := ⟨.vmem, 125, rfl⟩
abbrev cc10_stg0_0 : Ref sig .tc := ⟨.vmem, 126, rfl⟩
abbrev cc10_stg0_1 : Ref sig .tc := ⟨.vmem, 127, rfl⟩
abbrev cc10_stg1_0 : Ref sig .tc := ⟨.vmem, 128, rfl⟩
abbrev cc10_stg2_0 : Ref sig .tc := ⟨.vmem, 129, rfl⟩
abbrev cc10_stg3_0 : Ref sig .tc := ⟨.vmem, 130, rfl⟩
abbrev cc10_stg4_0 : Ref sig .tc := ⟨.vmem, 131, rfl⟩
abbrev cc10_stg5_0 : Ref sig .tc := ⟨.vmem, 132, rfl⟩
abbrev cc10_stg6_0 : Ref sig .tc := ⟨.vmem, 133, rfl⟩
abbrev cc10_stg7_0 : Ref sig .tc := ⟨.vmem, 134, rfl⟩
abbrev cc10_stg7_1 : Ref sig .tc := ⟨.vmem, 135, rfl⟩
abbrev cc10_stg8_0 : Ref sig .tc := ⟨.vmem, 136, rfl⟩
abbrev cc10_stg8_1 : Ref sig .tc := ⟨.vmem, 137, rfl⟩
abbrev cc10_scratch0 : Ref sig .tc := ⟨.vmem, 138, rfl⟩
abbrev cc10_scratch1 : Ref sig .tc := ⟨.vmem, 139, rfl⟩
abbrev cc11_stg0_0 : Ref sig .tc := ⟨.vmem, 140, rfl⟩
abbrev cc11_stg0_1 : Ref sig .tc := ⟨.vmem, 141, rfl⟩
abbrev cc11_stg1_0 : Ref sig .tc := ⟨.vmem, 142, rfl⟩
abbrev cc11_stg2_0 : Ref sig .tc := ⟨.vmem, 143, rfl⟩
abbrev cc11_stg3_0 : Ref sig .tc := ⟨.vmem, 144, rfl⟩
abbrev cc11_stg4_0 : Ref sig .tc := ⟨.vmem, 145, rfl⟩
abbrev cc11_stg5_0 : Ref sig .tc := ⟨.vmem, 146, rfl⟩
abbrev cc11_stg6_0 : Ref sig .tc := ⟨.vmem, 147, rfl⟩
abbrev cc11_stg7_0 : Ref sig .tc := ⟨.vmem, 148, rfl⟩
abbrev cc11_stg7_1 : Ref sig .tc := ⟨.vmem, 149, rfl⟩
abbrev cc11_scratch0 : Ref sig .tc := ⟨.vmem, 150, rfl⟩
abbrev cc12_stg0_0 : Ref sig .tc := ⟨.vmem, 151, rfl⟩
abbrev cc12_stg0_1 : Ref sig .tc := ⟨.vmem, 152, rfl⟩
abbrev cc12_stg1_0 : Ref sig .tc := ⟨.vmem, 153, rfl⟩
abbrev cc12_stg2_0 : Ref sig .tc := ⟨.vmem, 154, rfl⟩
abbrev cc12_stg3_0 : Ref sig .tc := ⟨.vmem, 155, rfl⟩
abbrev cc12_stg4_0 : Ref sig .tc := ⟨.vmem, 156, rfl⟩
abbrev cc12_stg5_0 : Ref sig .tc := ⟨.vmem, 157, rfl⟩
abbrev cc12_stg6_0 : Ref sig .tc := ⟨.vmem, 158, rfl⟩
abbrev cc12_stg7_0 : Ref sig .tc := ⟨.vmem, 159, rfl⟩
abbrev cc12_stg7_1 : Ref sig .tc := ⟨.vmem, 160, rfl⟩
abbrev cc12_stg8_0 : Ref sig .tc := ⟨.vmem, 161, rfl⟩
abbrev cc12_stg8_1 : Ref sig .tc := ⟨.vmem, 162, rfl⟩
abbrev cc12_scratch0 : Ref sig .tc := ⟨.vmem, 163, rfl⟩
abbrev cc12_scratch1 : Ref sig .tc := ⟨.vmem, 164, rfl⟩
abbrev cc13_stg0_0 : Ref sig .tc := ⟨.vmem, 165, rfl⟩
abbrev cc13_stg0_1 : Ref sig .tc := ⟨.vmem, 166, rfl⟩
abbrev cc13_stg1_0 : Ref sig .tc := ⟨.vmem, 167, rfl⟩
abbrev cc13_stg2_0 : Ref sig .tc := ⟨.vmem, 168, rfl⟩
abbrev cc13_stg3_0 : Ref sig .tc := ⟨.vmem, 169, rfl⟩
abbrev cc13_stg4_0 : Ref sig .tc := ⟨.vmem, 170, rfl⟩
abbrev cc13_stg5_0 : Ref sig .tc := ⟨.vmem, 171, rfl⟩
abbrev cc13_stg6_0 : Ref sig .tc := ⟨.vmem, 172, rfl⟩
abbrev cc13_stg7_0 : Ref sig .tc := ⟨.vmem, 173, rfl⟩
abbrev cc13_stg7_1 : Ref sig .tc := ⟨.vmem, 174, rfl⟩
abbrev cc13_scratch0 : Ref sig .tc := ⟨.vmem, 175, rfl⟩
abbrev cc14_stg0_0 : Ref sig .tc := ⟨.vmem, 176, rfl⟩
abbrev cc14_stg0_1 : Ref sig .tc := ⟨.vmem, 177, rfl⟩
abbrev cc14_stg1_0 : Ref sig .tc := ⟨.vmem, 178, rfl⟩
abbrev cc14_stg2_0 : Ref sig .tc := ⟨.vmem, 179, rfl⟩
abbrev cc14_stg3_0 : Ref sig .tc := ⟨.vmem, 180, rfl⟩
abbrev cc14_stg4_0 : Ref sig .tc := ⟨.vmem, 181, rfl⟩
abbrev cc14_stg5_0 : Ref sig .tc := ⟨.vmem, 182, rfl⟩
abbrev cc14_stg6_0 : Ref sig .tc := ⟨.vmem, 183, rfl⟩
abbrev cc14_stg7_0 : Ref sig .tc := ⟨.vmem, 184, rfl⟩
abbrev cc14_stg7_1 : Ref sig .tc := ⟨.vmem, 185, rfl⟩
abbrev cc14_stg8_0 : Ref sig .tc := ⟨.vmem, 186, rfl⟩
abbrev cc14_stg8_1 : Ref sig .tc := ⟨.vmem, 187, rfl⟩
abbrev cc14_scratch0 : Ref sig .tc := ⟨.vmem, 188, rfl⟩
abbrev cc14_scratch1 : Ref sig .tc := ⟨.vmem, 189, rfl⟩
abbrev cc15_stg0_0 : Ref sig .tc := ⟨.vmem, 190, rfl⟩
abbrev cc15_stg0_1 : Ref sig .tc := ⟨.vmem, 191, rfl⟩
abbrev cc15_stg1_0 : Ref sig .tc := ⟨.vmem, 192, rfl⟩
abbrev cc15_stg2_0 : Ref sig .tc := ⟨.vmem, 193, rfl⟩
abbrev cc15_stg3_0 : Ref sig .tc := ⟨.vmem, 194, rfl⟩
abbrev cc15_stg4_0 : Ref sig .tc := ⟨.vmem, 195, rfl⟩
abbrev cc15_stg5_0 : Ref sig .tc := ⟨.vmem, 196, rfl⟩
abbrev cc15_stg6_0 : Ref sig .tc := ⟨.vmem, 197, rfl⟩
abbrev cc15_stg7_0 : Ref sig .tc := ⟨.vmem, 198, rfl⟩
abbrev cc15_stg8_0 : Ref sig .tc := ⟨.vmem, 199, rfl⟩
abbrev cc15_stg9_0 : Ref sig .tc := ⟨.vmem, 200, rfl⟩
abbrev cc15_stg9_1 : Ref sig .tc := ⟨.vmem, 201, rfl⟩
abbrev cc15_stg10_0 : Ref sig .tc := ⟨.vmem, 202, rfl⟩
abbrev cc15_stg10_1 : Ref sig .tc := ⟨.vmem, 203, rfl⟩
abbrev cc15_scratch0 : Ref sig .tc := ⟨.vmem, 204, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem7_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54
abbrev cc4_sem8_0 : DmaSem sig := 55
abbrev cc4_sem8_1 : DmaSem sig := 56
abbrev cc5_sem0_0 : DmaSem sig := 57
abbrev cc5_sem0_1 : DmaSem sig := 58
abbrev cc5_sem1_0 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem7_1 : DmaSem sig := 66
abbrev cc6_sem0_0 : DmaSem sig := 67
abbrev cc6_sem0_1 : DmaSem sig := 68
abbrev cc6_sem1_0 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem6_0 : DmaSem sig := 74
abbrev cc6_sem7_0 : DmaSem sig := 75
abbrev cc6_sem7_1 : DmaSem sig := 76
abbrev cc6_sem8_0 : DmaSem sig := 77
abbrev cc6_sem8_1 : DmaSem sig := 78
abbrev cc7_sem0_0 : DmaSem sig := 79
abbrev cc7_sem0_1 : DmaSem sig := 80
abbrev cc7_sem1_0 : DmaSem sig := 81
abbrev cc7_sem2_0 : DmaSem sig := 82
abbrev cc7_sem3_0 : DmaSem sig := 83
abbrev cc7_sem4_0 : DmaSem sig := 84
abbrev cc7_sem5_0 : DmaSem sig := 85
abbrev cc7_sem6_0 : DmaSem sig := 86
abbrev cc7_sem7_0 : DmaSem sig := 87
abbrev cc7_sem7_1 : DmaSem sig := 88
abbrev cc8_sem0_0 : DmaSem sig := 89
abbrev cc8_sem0_1 : DmaSem sig := 90
abbrev cc8_sem1_0 : DmaSem sig := 91
abbrev cc8_sem2_0 : DmaSem sig := 92
abbrev cc8_sem3_0 : DmaSem sig := 93
abbrev cc8_sem4_0 : DmaSem sig := 94
abbrev cc8_sem5_0 : DmaSem sig := 95
abbrev cc8_sem6_0 : DmaSem sig := 96
abbrev cc8_sem7_0 : DmaSem sig := 97
abbrev cc8_sem7_1 : DmaSem sig := 98
abbrev cc8_sem8_0 : DmaSem sig := 99
abbrev cc8_sem8_1 : DmaSem sig := 100
abbrev cc9_sem0_0 : DmaSem sig := 101
abbrev cc9_sem0_1 : DmaSem sig := 102
abbrev cc9_sem1_0 : DmaSem sig := 103
abbrev cc9_sem2_0 : DmaSem sig := 104
abbrev cc9_sem3_0 : DmaSem sig := 105
abbrev cc9_sem4_0 : DmaSem sig := 106
abbrev cc9_sem5_0 : DmaSem sig := 107
abbrev cc9_sem6_0 : DmaSem sig := 108
abbrev cc9_sem7_0 : DmaSem sig := 109
abbrev cc9_sem7_1 : DmaSem sig := 110
abbrev cc10_sem0_0 : DmaSem sig := 111
abbrev cc10_sem0_1 : DmaSem sig := 112
abbrev cc10_sem1_0 : DmaSem sig := 113
abbrev cc10_sem2_0 : DmaSem sig := 114
abbrev cc10_sem3_0 : DmaSem sig := 115
abbrev cc10_sem4_0 : DmaSem sig := 116
abbrev cc10_sem5_0 : DmaSem sig := 117
abbrev cc10_sem6_0 : DmaSem sig := 118
abbrev cc10_sem7_0 : DmaSem sig := 119
abbrev cc10_sem7_1 : DmaSem sig := 120
abbrev cc10_sem8_0 : DmaSem sig := 121
abbrev cc10_sem8_1 : DmaSem sig := 122
abbrev cc11_sem0_0 : DmaSem sig := 123
abbrev cc11_sem0_1 : DmaSem sig := 124
abbrev cc11_sem1_0 : DmaSem sig := 125
abbrev cc11_sem2_0 : DmaSem sig := 126
abbrev cc11_sem3_0 : DmaSem sig := 127
abbrev cc11_sem4_0 : DmaSem sig := 128
abbrev cc11_sem5_0 : DmaSem sig := 129
abbrev cc11_sem6_0 : DmaSem sig := 130
abbrev cc11_sem7_0 : DmaSem sig := 131
abbrev cc11_sem7_1 : DmaSem sig := 132
abbrev cc12_sem0_0 : DmaSem sig := 133
abbrev cc12_sem0_1 : DmaSem sig := 134
abbrev cc12_sem1_0 : DmaSem sig := 135
abbrev cc12_sem2_0 : DmaSem sig := 136
abbrev cc12_sem3_0 : DmaSem sig := 137
abbrev cc12_sem4_0 : DmaSem sig := 138
abbrev cc12_sem5_0 : DmaSem sig := 139
abbrev cc12_sem6_0 : DmaSem sig := 140
abbrev cc12_sem7_0 : DmaSem sig := 141
abbrev cc12_sem7_1 : DmaSem sig := 142
abbrev cc12_sem8_0 : DmaSem sig := 143
abbrev cc12_sem8_1 : DmaSem sig := 144
abbrev cc13_sem0_0 : DmaSem sig := 145
abbrev cc13_sem0_1 : DmaSem sig := 146
abbrev cc13_sem1_0 : DmaSem sig := 147
abbrev cc13_sem2_0 : DmaSem sig := 148
abbrev cc13_sem3_0 : DmaSem sig := 149
abbrev cc13_sem4_0 : DmaSem sig := 150
abbrev cc13_sem5_0 : DmaSem sig := 151
abbrev cc13_sem6_0 : DmaSem sig := 152
abbrev cc13_sem7_0 : DmaSem sig := 153
abbrev cc13_sem7_1 : DmaSem sig := 154
abbrev cc14_sem0_0 : DmaSem sig := 155
abbrev cc14_sem0_1 : DmaSem sig := 156
abbrev cc14_sem1_0 : DmaSem sig := 157
abbrev cc14_sem2_0 : DmaSem sig := 158
abbrev cc14_sem3_0 : DmaSem sig := 159
abbrev cc14_sem4_0 : DmaSem sig := 160
abbrev cc14_sem5_0 : DmaSem sig := 161
abbrev cc14_sem6_0 : DmaSem sig := 162
abbrev cc14_sem7_0 : DmaSem sig := 163
abbrev cc14_sem7_1 : DmaSem sig := 164
abbrev cc14_sem8_0 : DmaSem sig := 165
abbrev cc14_sem8_1 : DmaSem sig := 166
abbrev cc15_sem0_0 : DmaSem sig := 167
abbrev cc15_sem0_1 : DmaSem sig := 168
abbrev cc15_sem1_0 : DmaSem sig := 169
abbrev cc15_sem2_0 : DmaSem sig := 170
abbrev cc15_sem3_0 : DmaSem sig := 171
abbrev cc15_sem4_0 : DmaSem sig := 172
abbrev cc15_sem5_0 : DmaSem sig := 173
abbrev cc15_sem6_0 : DmaSem sig := 174
abbrev cc15_sem7_0 : DmaSem sig := 175
abbrev cc15_sem8_0 : DmaSem sig := 176
abbrev cc15_sem9_0 : DmaSem sig := 177
abbrev cc15_sem9_1 : DmaSem sig := 178
abbrev cc15_sem10_0 : DmaSem sig := 179
abbrev cc15_sem10_1 : DmaSem sig := 180

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x16x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_4 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_5 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_6 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_7 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x3072 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x16x256x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_2 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_3 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_5 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_6 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4096x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1x256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc4_transform_3 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc4_transform_4 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc4_transform_5 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc4_transform_6 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc4_transform_7 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, arg0.toNat, c0_i32.toNat, c0_i32_0.toNat, c0_i32_1.toNat]

abbrev stage4_0 : Fin 2 → Memref sig .tc .vmem S1x256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024x3072 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1x3072 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1x256x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x16x256x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_2 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_3 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_4 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_5 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_6 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1024x4096 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x4096x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1x256x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_3 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_4 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_5 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_6 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_7 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_9 (i : grid6.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

abbrev stage6_0 : Fin 2 → Memref sig .tc .vmem S1x256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024x3072 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1x3072 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1024x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1x256x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x1x16x256x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_2 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_3 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_4 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_5 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_6 (i : grid7.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024x4096 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1x4096 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x4096x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1x256x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![8], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc8_transform_3 (i : grid8.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc8_transform_4 (i : grid8.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc8_transform_5 (i : grid8.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc8_transform_6 (i : grid8.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc8_transform_7 (i : grid8.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc8_transform_8 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_9 (i : grid8.Coords) : Fin 5 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  let c0_i32_2 : BitVec 32 := 0#32
  ![c4_i32.toNat, arg0.toNat, c0_i32.toNat, c0_i32_0.toNat, c0_i32_1.toNat]

abbrev stage8_0 : Fin 2 → Memref sig .tc .vmem S1x256x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1024x3072 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1x3072 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x1024x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S1x256x1024 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S1x1x16x256x256 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![8], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc9_transform_2 (i : grid9.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc9_transform_3 (i : grid9.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc9_transform_4 (i : grid9.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc9_transform_5 (i : grid9.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc9_transform_6 (i : grid9.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x256x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1024x4096 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1x4096 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x4096x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S1x256x1024 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![8], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc10_transform_3 (i : grid10.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc10_transform_4 (i : grid10.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc10_transform_5 (i : grid10.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc10_transform_6 (i : grid10.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc10_transform_7 (i : grid10.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_9 (i : grid10.Coords) : Fin 5 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  let c0_i32_2 : BitVec 32 := 0#32
  ![c5_i32.toNat, arg0.toNat, c0_i32.toNat, c0_i32_0.toNat, c0_i32_1.toNat]

abbrev stage10_0 : Fin 2 → Memref sig .tc .vmem S1x256x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1024x3072 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1x3072 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x1024x1024 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S1x256x1024 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1x1x16x256x256 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![8], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc11_transform_2 (i : grid11.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc11_transform_3 (i : grid11.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc11_transform_4 (i : grid11.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc11_transform_5 (i : grid11.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc11_transform_6 (i : grid11.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc11_transform_7 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x256x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1x1024 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1024x4096 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1x4096 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x4096x1024 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x1x1024 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S1x256x1024 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![8], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc12_transform_3 (i : grid12.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc12_transform_4 (i : grid12.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc12_transform_5 (i : grid12.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc12_transform_6 (i : grid12.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc12_transform_7 (i : grid12.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc12_transform_8 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_9 (i : grid12.Coords) : Fin 5 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  let c0_i32_2 : BitVec 32 := 0#32
  ![c6_i32.toNat, arg0.toNat, c0_i32.toNat, c0_i32_0.toNat, c0_i32_1.toNat]

abbrev stage12_0 : Fin 2 → Memref sig .tc .vmem S1x256x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x1x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1024x3072 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1x3072 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x1024x1024 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x1x1024 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S1x256x1024 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S1x1x16x256x256 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev grid13 : Pipeline.Grid := ⟨1, ![8], ![false]⟩

def cc13_transform_0 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_1 (i : grid13.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc13_transform_2 (i : grid13.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc13_transform_3 (i : grid13.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc13_transform_4 (i : grid13.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc13_transform_5 (i : grid13.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc13_transform_6 (i : grid13.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc13_transform_7 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x256x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x1x1024 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x1x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1024x4096 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x1x4096 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x4096x1024 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x1x1024 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S1x256x1024 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![8], ![false]⟩

def cc14_transform_0 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_2 (i : grid14.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc14_transform_3 (i : grid14.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc14_transform_4 (i : grid14.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc14_transform_5 (i : grid14.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc14_transform_6 (i : grid14.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc14_transform_7 (i : grid14.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc14_transform_8 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_9 (i : grid14.Coords) : Fin 5 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  let c0_i32_2 : BitVec 32 := 0#32
  ![c7_i32.toNat, arg0.toNat, c0_i32.toNat, c0_i32_0.toNat, c0_i32_1.toNat]

abbrev stage14_0 : Fin 2 → Memref sig .tc .vmem S1x256x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x1x1024 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1x1024 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x1024x3072 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x1x3072 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x1024x1024 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x1x1024 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S1x256x1024 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev stage14_8 : Fin 2 → Memref sig .tc .vmem S1x1x16x256x256 .f32 := fun | 0 => Memref.whole cc14_stg8_0 | 1 => Memref.whole cc14_stg8_1 | ⟨_ + 2, h⟩ => absurd h (Nat.not_lt.2 (Nat.le_add_left _ _))
abbrev sem14_8 : Fin 2 → DmaSem sig := fun | 0 => cc14_sem8_0 | 1 => cc14_sem8_1 | ⟨_ + 2, h⟩ => absurd h (Nat.not_lt.2 (Nat.le_add_left _ _))
abbrev reads14_8 : Fin grid14.rank → Bool := ![true]

abbrev grid15 : Pipeline.Grid := ⟨1, ![8], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_1 (i : grid15.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc15_transform_2 (i : grid15.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc15_transform_3 (i : grid15.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc15_transform_4 (i : grid15.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc15_transform_5 (i : grid15.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc15_transform_6 (i : grid15.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_8 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_9 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_10 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x256x1024 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x1x1024 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x1x1024 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1024x4096 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x1x4096 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x4096x1024 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x1x1024 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S1x1024 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev stage15_8 : Fin 1 → Memref sig .tc .vmem S1x1024 .f32 := fun | 0 => Memref.whole cc15_stg8_0 | ⟨_ + 1, h⟩ => absurd h (Nat.not_lt.2 (Nat.le_add_left _ _))
abbrev sem15_8 : Fin 1 → DmaSem sig := fun | 0 => cc15_sem8_0 | ⟨_ + 1, h⟩ => absurd h (Nat.not_lt.2 (Nat.le_add_left _ _))
abbrev reads15_8 : Fin grid15.rank → Bool := ![false]

abbrev stage15_9 : Fin 2 → Memref sig .tc .vmem S1x256x1024 .f32 := fun | 0 => Memref.whole cc15_stg9_0 | 1 => Memref.whole cc15_stg9_1 | ⟨_ + 2, h⟩ => absurd h (Nat.not_lt.2 (Nat.le_add_left _ _))
abbrev sem15_9 : Fin 2 → DmaSem sig := fun | 0 => cc15_sem9_0 | 1 => cc15_sem9_1 | ⟨_ + 2, h⟩ => absurd h (Nat.not_lt.2 (Nat.le_add_left _ _))
abbrev reads15_9 : Fin grid15.rank → Bool := ![true]

abbrev stage15_10 : Fin 2 → Memref sig .tc .vmem S1x1x1024 .f32 := fun | 0 => Memref.whole cc15_stg10_0 | 1 => Memref.whole cc15_stg10_1 | ⟨_ + 2, h⟩ => absurd h (Nat.not_lt.2 (Nat.le_add_left _ _))
abbrev sem15_10 : Fin 2 → DmaSem sig := fun | 0 => cc15_sem10_0 | 1 => cc15_sem10_1 | ⟨_ + 2, h⟩ => absurd h (Nat.not_lt.2 (Nat.le_add_left _ _))
abbrev reads15_10 : Fin grid15.rank → Bool := ![true]
-- ==== ReferenceIdeal.lean ====
abbrev S8x255x1024 : Shape := ⟨3, ![8, 255, 1024]⟩
abbrev S8x255 : Shape := ⟨2, ![8, 255]⟩
abbrev S_ : Shape := ⟨0, ![]⟩
abbrev S1x1024 : Shape := ⟨2, ![1, 1024]⟩
abbrev S256x1024 : Shape := ⟨2, ![256, 1024]⟩
abbrev S8x1024 : Shape := ⟨2, ![8, 1024]⟩
abbrev S8x1024x3072 : Shape := ⟨3, ![8, 1024, 3072]⟩
abbrev S8x3072 : Shape := ⟨2, ![8, 3072]⟩
abbrev S8x1024x1024 : Shape := ⟨3, ![8, 1024, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S1024 : Shape := ⟨1, ![1024]⟩
abbrev S1x1x1024 : Shape := ⟨3, ![1, 1, 1024]⟩
abbrev S8x1x1024 : Shape := ⟨3, ![8, 1, 1024]⟩
abbrev S8x256x1024 : Shape := ⟨3, ![8, 256, 1024]⟩
abbrev S1x256x1024 : Shape := ⟨3, ![1, 256, 1024]⟩
abbrev S8x1 : Shape := ⟨2, ![8, 1]⟩
abbrev S8x256 : Shape := ⟨2, ![8, 256]⟩
abbrev S8x1x1x256 : Shape := ⟨4, ![8, 1, 1, 256]⟩
abbrev S8x8x16x256x256 : Shape := ⟨5, ![8, 8, 16, 256, 256]⟩
abbrev S1x1024x3072 : Shape := ⟨3, ![1, 1024, 3072]⟩
abbrev S1024x3072 : Shape := ⟨2, ![1024, 3072]⟩
abbrev S1x3072 : Shape := ⟨2, ![1, 3072]⟩
abbrev S3072 : Shape := ⟨1, ![3072]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S8x256x1 : Shape := ⟨3, ![8, 256, 1]⟩
abbrev S8x256x3072 : Shape := ⟨3, ![8, 256, 3072]⟩
abbrev S1x1x3072 : Shape := ⟨3, ![1, 1, 3072]⟩
abbrev S8x256x16x64 : Shape := ⟨4, ![8, 256, 16, 64]⟩
abbrev S8x16x256x64 : Shape := ⟨4, ![8, 16, 256, 64]⟩
abbrev S8x16x256x256 : Shape := ⟨4, ![8, 16, 256, 256]⟩
abbrev S8x16x256 : Shape := ⟨3, ![8, 16, 256]⟩
abbrev S8x16x256x1 : Shape := ⟨4, ![8, 16, 256, 1]⟩
abbrev S8x256x4096 : Shape := ⟨3, ![8, 256, 4096]⟩
abbrev S1x1x4096 : Shape := ⟨3, ![1, 1, 4096]⟩
abbrev S1x8x16x256x256 : Shape := ⟨5, ![1, 8, 16, 256, 256]⟩

abbrev nBuf : Space → Nat
  | .hbm => 263
  | .vmem => 0
  | .smem => 0
  | _ => 0

abbrev hbmTy0_0 (i : Nat) : BufTy := match i % 128 with
  | 0 => ⟨S8x255x1024, .f32⟩
  | 1 => ⟨S8x255, .i32⟩
  | 2 => ⟨S_, .i32⟩
  | 3 => ⟨S1x1024, .f32⟩
  | 4 => ⟨S256x1024, .f32⟩
  | 5 => ⟨S8x1024, .f32⟩
  | 6 => ⟨S8x1024, .f32⟩
  | 7 => ⟨S8x1024x3072, .f32⟩
  | 8 => ⟨S8x3072, .f32⟩
  | 9 => ⟨S8x1024x1024, .f32⟩
  | 10 => ⟨S8x1024, .f32⟩
  | 11 => ⟨S8x1024, .f32⟩
  | 12 => ⟨S8x1024, .f32⟩
  | 13 => ⟨S8x1024x4096, .f32⟩
  | 14 => ⟨S8x4096, .f32⟩
  | 15 => ⟨S8x4096x1024, .f32⟩
  | 16 => ⟨S8x1024, .f32⟩
  | 17 => ⟨S1024, .f32⟩
  | 18 => ⟨S1024, .f32⟩
  | 19 => ⟨S1x1x1024, .f32⟩
  | 20 => ⟨S8x1x1024, .f32⟩
  | 21 => ⟨S8x256x1024, .f32⟩
  | 22 => ⟨S1x256x1024, .f32⟩
  | 23 => ⟨S8x256x1024, .f32⟩
  | 24 => ⟨S8x256x1024, .f32⟩
  | 25 => ⟨S_, .i32⟩
  | 26 => ⟨S8x1, .i32⟩
  | 27 => ⟨S8x256, .i32⟩
  | 28 => ⟨S8x1x1x256, .i32⟩
  | 29 => ⟨S_, .i32⟩
  | 30 => ⟨S8x1x1x256, .i32⟩
  | 31 => ⟨S8x1x1x256, .i1⟩
  | 32 => ⟨S_, .f32⟩
  | 33 => ⟨S_, .f32⟩
  | 34 => ⟨S8x1x1x256, .f32⟩
  | 35 => ⟨S8x1x1x256, .f32⟩
  | 36 => ⟨S8x1x1x256, .f32⟩
  | 37 => ⟨S_, .f32⟩
  | 38 => ⟨S8x8x16x256x256, .f32⟩
  | 39 => ⟨S_, .i32⟩
  | 40 => ⟨S8x1024, .f32⟩
  | 41 => ⟨S8x1024, .f32⟩
  | 42 => ⟨S8x1024x3072, .f32⟩
  | 43 => ⟨S8x3072, .f32⟩
  | 44 => ⟨S8x1024x1024, .f32⟩
  | 45 => ⟨S8x1024, .f32⟩
  | 46 => ⟨S8x1024, .f32⟩
  | 47 => ⟨S8x1024, .f32⟩
  | 48 => ⟨S8x1024x4096, .f32⟩
  | 49 => ⟨S8x4096, .f32⟩
  | 50 => ⟨S8x4096x1024, .f32⟩
  | 51 => ⟨S8x1024, .f32⟩
  | 52 => ⟨S8x1x1x256, .f32⟩
  | 53 => ⟨S_, .i32⟩
  | 54 => ⟨S8x256x1024, .f32⟩
  | 55 => ⟨S8x8x16x256x256, .f32⟩
  | 56 => ⟨S_, .i32⟩
  | 57 => ⟨S_, .i1⟩
  | 58 => ⟨S_, .i32⟩
  | 59 => ⟨S1x1024, .f32⟩
  | 60 => ⟨S1024, .f32⟩
  | 61 => ⟨S_, .i32⟩
  | 62 => ⟨S1x1024, .f32⟩
  | 63 => ⟨S1024, .f32⟩
  | 64 => ⟨S_, .i32⟩
  | 65 => ⟨S_, .i32⟩
  | 66 => ⟨S1x1024x3072, .f32⟩
  | 67 => ⟨S1024x3072, .f32⟩
  | 68 => ⟨S_, .i32⟩
  | 69 => ⟨S1x3072, .f32⟩
  | 70 => ⟨S3072, .f32⟩
  | 71 => ⟨S_, .i32⟩
  | 72 => ⟨S_, .i32⟩
  | 73 => ⟨S1x1024x1024, .f32⟩
  | 74 => ⟨S1024x1024, .f32⟩
  | 75 => ⟨S_, .i32⟩
  | 76 => ⟨S1x1024, .f32⟩
  | 77 => ⟨S1024, .f32⟩
  | 78 => ⟨S_, .i32⟩
  | 79 => ⟨S1x1024, .f32⟩
  | 80 => ⟨S1024, .f32⟩
  | 81 => ⟨S_, .i32⟩
  | 82 => ⟨S1x1024, .f32⟩
  | 83 => ⟨S1024, .f32⟩
  | 84 => ⟨S_, .i32⟩
  | 85 => ⟨S_, .i32⟩
  | 86 => ⟨S1x1024x4096, .f32⟩
  | 87 => ⟨S1024x4096, .f32⟩
  | 88 => ⟨S_, .i32⟩
  | 89 => ⟨S1x4096, .f32⟩
  | 90 => ⟨S4096, .f32⟩
  | 91 => ⟨S_, .i32⟩
  | 92 => ⟨S_, .i32⟩
  | 93 => ⟨S1x4096x1024, .f32⟩
  | 94 => ⟨S4096x1024, .f32⟩
  | 95 => ⟨S_, .i32⟩
  | 96 => ⟨S1x1024, .f32⟩
  | 97 => ⟨S1024, .f32⟩
  | 98 => ⟨S_, .f32⟩
  | 99 => ⟨S8x256, .f32⟩
  | 100 => ⟨S8x256x1, .f32⟩
  | 101 => ⟨S_, .f32⟩
  | 102 => ⟨S8x256x1, .f32⟩
  | 103 => ⟨S8x256x1, .f32⟩
  | 104 => ⟨S8x256x1024, .f32⟩
  | 105 => ⟨S8x256x1024, .f32⟩
  | 106 => ⟨S8x256x1024, .f32⟩
  | 107 => ⟨S_, .f32⟩
  | 108 => ⟨S8x256, .f32⟩
  | 109 => ⟨S8x256x1, .f32⟩
  | 110 => ⟨S_, .f32⟩
  | 111 => ⟨S8x256x1, .f32⟩
  | 112 => ⟨S8x256x1, .f32⟩
  | 113 => ⟨S8x256x1024, .f32⟩
  | 114 => ⟨S8x256x1024, .f32⟩
  | 115 => ⟨S_, .f32⟩
  | 116 => ⟨S8x256x1, .f32⟩
  | 117 => ⟨S8x256x1, .f32⟩
  | 118 => ⟨S8x256x1, .f32⟩
  | 119 => ⟨S8x256x1024, .f32⟩
  | 120 => ⟨S8x256x1024, .f32⟩
  | 121 => ⟨S1x1x1024, .f32⟩
  | 122 => ⟨S8x256x1024, .f32⟩
  | 123 => ⟨S8x256x1024, .f32⟩
  | 124 => ⟨S1x1x1024, .f32⟩
  | 125 => ⟨S8x256x1024, .f32⟩
  | 126 => ⟨S8x256x1024, .f32⟩
  | 127 => ⟨S8x256x3072, .f32⟩
  | _ => ⟨S8x255x1024, .f32⟩

abbrev hbmTy0_1 (i : Nat) : BufTy := match i % 128 with
  | 0 => ⟨S1x1x3072, .f32⟩
  | 1 => ⟨S8x256x3072, .f32⟩
  | 2 => ⟨S8x256x3072, .f32⟩
  | 3 => ⟨S8x256x1024, .f32⟩
  | 4 => ⟨S8x256x1024, .f32⟩
  | 5 => ⟨S8x256x1024, .f32⟩
  | 6 => ⟨S8x256x16x64, .f32⟩
  | 7 => ⟨S8x16x256x64, .f32⟩
  | 8 => ⟨S8x256x16x64, .f32⟩
  | 9 => ⟨S8x16x256x64, .f32⟩
  | 10 => ⟨S8x256x16x64, .f32⟩
  | 11 => ⟨S8x16x256x64, .f32⟩
  | 12 => ⟨S8x16x256x256, .f32⟩
  | 13 => ⟨S_, .f32⟩
  | 14 => ⟨S8x16x256x256, .f32⟩
  | 15 => ⟨S8x16x256x256, .f32⟩
  | 16 => ⟨S8x1x1x256, .f32⟩
  | 17 => ⟨S8x16x256x256, .f32⟩
  | 18 => ⟨S8x16x256x256, .f32⟩
  | 19 => ⟨S_, .f32⟩
  | 20 => ⟨S8x16x256, .f32⟩
  | 21 => ⟨S_, .f32⟩
  | 22 => ⟨S8x16x256, .f32⟩
  | 23 => ⟨S8x16x256, .f32⟩
  | 24 => ⟨S8x16x256x1, .f32⟩
  | 25 => ⟨S8x16x256x256, .f32⟩
  | 26 => ⟨S8x16x256x256, .f32⟩
  | 27 => ⟨S8x16x256x256, .f32⟩
  | 28 => ⟨S_, .f32⟩
  | 29 => ⟨S8x16x256, .f32⟩
  | 30 => ⟨S8x16x256x1, .f32⟩
  | 31 => ⟨S8x16x256x256, .f32⟩
  | 32 => ⟨S8x16x256x256, .f32⟩
  | 33 => ⟨S8x16x256x64, .f32⟩
  | 34 => ⟨S8x256x16x64, .f32⟩
  | 35 => ⟨S8x256x1024, .f32⟩
  | 36 => ⟨S8x256x1024, .f32⟩
  | 37 => ⟨S8x256x1024, .f32⟩
  | 38 => ⟨S1x1x1024, .f32⟩
  | 39 => ⟨S8x256x1024, .f32⟩
  | 40 => ⟨S8x256x1024, .f32⟩
  | 41 => ⟨S_, .f32⟩
  | 42 => ⟨S8x256, .f32⟩
  | 43 => ⟨S8x256x1, .f32⟩
  | 44 => ⟨S_, .f32⟩
  | 45 => ⟨S8x256x1, .f32⟩
  | 46 => ⟨S8x256x1, .f32⟩
  | 47 => ⟨S8x256x1024, .f32⟩
  | 48 => ⟨S8x256x1024, .f32⟩
  | 49 => ⟨S8x256x1024, .f32⟩
  | 50 => ⟨S_, .f32⟩
  | 51 => ⟨S8x256, .f32⟩
  | 52 => ⟨S8x256x1, .f32⟩
  | 53 => ⟨S_, .f32⟩
  | 54 => ⟨S8x256x1, .f32⟩
  | 55 => ⟨S8x256x1, .f32⟩
  | 56 => ⟨S8x256x1024, .f32⟩
  | 57 => ⟨S8x256x1024, .f32⟩
  | 58 => ⟨S_, .f32⟩
  | 59 => ⟨S8x256x1, .f32⟩
  | 60 => ⟨S8x256x1, .f32⟩
  | 61 => ⟨S8x256x1, .f32⟩
  | 62 => ⟨S8x256x1024, .f32⟩
  | 63 => ⟨S8x256x1024, .f32⟩
  | 64 => ⟨S1x1x1024, .f32⟩
  | 65 => ⟨S8x256x1024, .f32⟩
  | 66 => ⟨S8x256x1024, .f32⟩
  | 67 => ⟨S1x1x1024, .f32⟩
  | 68 => ⟨S8x256x1024, .f32⟩
  | 69 => ⟨S8x256x1024, .f32⟩
  | 70 => ⟨S8x256x4096, .f32⟩
  | 71 => ⟨S1x1x4096, .f32⟩
  | 72 => ⟨S8x256x4096, .f32⟩
  | 73 => ⟨S8x256x4096, .f32⟩
  | 74 => ⟨S8x256x4096, .f32⟩
  | 75 => ⟨S8x256x4096, .f32⟩
  | 76 => ⟨S_, .f32⟩
  | 77 => ⟨S8x256x4096, .f32⟩
  | 78 => ⟨S8x256x4096, .f32⟩
  | 79 => ⟨S8x256x4096, .f32⟩
  | 80 => ⟨S_, .f32⟩
  | 81 => ⟨S8x256x4096, .f32⟩
  | 82 => ⟨S8x256x4096, .f32⟩
  | 83 => ⟨S8x256x4096, .f32⟩
  | 84 => ⟨S_, .f32⟩
  | 85 => ⟨S8x256x4096, .f32⟩
  | 86 => ⟨S8x256x4096, .f32⟩
  | 87 => ⟨S_, .f32⟩
  | 88 => ⟨S8x256x4096, .f32⟩
  | 89 => ⟨S8x256x4096, .f32⟩
  | 90 => ⟨S8x256x4096, .f32⟩
  | 91 => ⟨S8x256x1024, .f32⟩
  | 92 => ⟨S8x256x1024, .f32⟩
  | 93 => ⟨S1x1x1024, .f32⟩
  | 94 => ⟨S8x256x1024, .f32⟩
  | 95 => ⟨S8x256x1024, .f32⟩
  | 96 => ⟨S1x8x16x256x256, .f32⟩
  | 97 => ⟨S_, .i32⟩
  | 98 => ⟨S_, .i32⟩
  | 99 => ⟨S_, .i32⟩
  | 100 => ⟨S_, .i32⟩
  | 101 => ⟨S8x8x16x256x256, .f32⟩
  | 102 => ⟨S_, .i32⟩
  | 103 => ⟨S_, .i32⟩
  | 104 => ⟨S_, .f32⟩
  | 105 => ⟨S8x256, .f32⟩
  | 106 => ⟨S8x256x1, .f32⟩
  | 107 => ⟨S_, .f32⟩
  | 108 => ⟨S8x256x1, .f32⟩
  | 109 => ⟨S8x256x1, .f32⟩
  | 110 => ⟨S8x256x1024, .f32⟩
  | 111 => ⟨S8x256x1024, .f32⟩
  | 112 => ⟨S8x256x1024, .f32⟩
  | 113 => ⟨S_, .f32⟩
  | 114 => ⟨S8x256, .f32⟩
  | 115 => ⟨S8x256x1, .f32⟩
  | 116 => ⟨S_, .f32⟩
  | 117 => ⟨S8x256x1, .f32⟩
  | 118 => ⟨S8x256x1, .f32⟩
  | 119 => ⟨S8x256x1024, .f32⟩
  | 120 => ⟨S8x256x1024, .f32⟩
  | 121 => ⟨S_, .f32⟩
  | 122 => ⟨S8x256x1, .f32⟩
  | 123 => ⟨S8x256x1, .f32⟩
  | 124 => ⟨S8x256x1, .f32⟩
  | 125 => ⟨S8x256x1024, .f32⟩
  | 126 => ⟨S8x256x1024, .f32⟩
  | 127 => ⟨S1x1x1024, .f32⟩
  | _ => ⟨S8x255x1024, .f32⟩

abbrev hbmTy0_2 (i : Nat) : BufTy := match i % 128 with
  | 0 => ⟨S8x256x1024, .f32⟩
  | 1 => ⟨S8x256x1024, .f32⟩
  | 2 => ⟨S1x1x1024, .f32⟩
  | 3 => ⟨S8x256x1024, .f32⟩
  | 4 => ⟨S8x256x1024, .f32⟩
  | 5 => ⟨S8x1x1024, .f32⟩
  | 6 => ⟨S8x1024, .f32⟩
  | _ => ⟨S8x255x1024, .f32⟩

abbrev hbmTy (i : Nat) : BufTy := match i / 128 with
  | 0 => hbmTy0_0 i
  | 1 => hbmTy0_1 i
  | 2 => hbmTy0_2 i
  | _ => ⟨S8x255x1024, .f32⟩

abbrev bufTy : (tb : Table) → Fin (tcTables nBuf tb) → BufTy
  | .hbm, ⟨i, _⟩ => hbmTy i
  | _, _ => ⟨S8x255x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v11 : Ref sig .tc := ⟨.hbm, 36, rfl⟩
abbrev main_cst_2 : Ref sig .tc := ⟨.hbm, 37, rfl⟩
abbrev main_v12 : Ref sig .tc := ⟨.hbm, 38, rfl⟩
abbrev main_c_3 : Ref sig .tc := ⟨.hbm, 39, rfl⟩
abbrev main_v13_0 : Ref sig .tc := ⟨.hbm, 40, rfl⟩
abbrev main_v13_1 : Ref sig .tc := ⟨.hbm, 41, rfl⟩
abbrev main_v13_2 : Ref sig .tc := ⟨.hbm, 42, rfl⟩
abbrev main_v13_3 : Ref sig .tc := ⟨.hbm, 43, rfl⟩
abbrev main_v13_4 : Ref sig .tc := ⟨.hbm, 44, rfl⟩
abbrev main_v13_5 : Ref sig .tc := ⟨.hbm, 45, rfl⟩
abbrev main_v13_6 : Ref sig .tc := ⟨.hbm, 46, rfl⟩
abbrev main_v13_7 : Ref sig .tc := ⟨.hbm, 47, rfl⟩
abbrev main_v13_8 : Ref sig .tc := ⟨.hbm, 48, rfl⟩
abbrev main_v13_9 : Ref sig .tc := ⟨.hbm, 49, rfl⟩
abbrev main_v13_10 : Ref sig .tc := ⟨.hbm, 50, rfl⟩
abbrev main_v13_11 : Ref sig .tc := ⟨.hbm, 51, rfl⟩
abbrev main_v13_12 : Ref sig .tc := ⟨.hbm, 52, rfl⟩
abbrev main_v13_13 : Ref sig .tc := ⟨.hbm, 53, rfl⟩
abbrev main_v13_14 : Ref sig .tc := ⟨.hbm, 54, rfl⟩
abbrev main_v13_15 : Ref sig .tc := ⟨.hbm, 55, rfl⟩
abbrev main_while0c_c_24 : Ref sig .tc := ⟨.hbm, 56, rfl⟩
abbrev main_while0c_v40 : Ref sig .tc := ⟨.hbm, 57, rfl⟩
abbrev main_while0b_call1_c : Ref sig .tc := ⟨.hbm, 58, rfl⟩
abbrev main_while0b_call1_v0 : Ref sig .tc := ⟨.hbm, 59, rfl⟩
abbrev main_while0b_v40 : Ref sig .tc := ⟨.hbm, 60, rfl⟩
abbrev main_while0b_call2_c : Ref sig .tc := ⟨.hbm, 61, rfl⟩
abbrev main_while0b_call2_v0 : Ref sig .tc := ⟨.hbm, 62, rfl⟩
abbrev main_while0b_v41 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_v0 : Ref sig .tc := ⟨.hbm, 66, rfl⟩
abbrev main_while0b_v42 : Ref sig .tc := ⟨.hbm, 67, rfl⟩
abbrev main_while0b_call4_c : Ref sig .tc := ⟨.hbm, 68, rfl⟩
abbrev main_while0b_call4_v0 : Ref sig .tc := ⟨.hbm, 69, rfl⟩
abbrev main_while0b_v43 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_v0 : Ref sig .tc := ⟨.hbm, 73, rfl⟩
abbrev main_while0b_v44 : Ref sig .tc := ⟨.hbm, 74, rfl⟩
abbrev main_while0b_call6_c : Ref sig .tc := ⟨.hbm, 75, rfl⟩
abbrev main_while0b_call6_v0 : Ref sig .tc := ⟨.hbm, 76, rfl⟩
abbrev main_while0b_v45 : Ref sig .tc := ⟨.hbm, 77, rfl⟩
abbrev main_while0b_call7_c : Ref sig .tc := ⟨.hbm, 78, rfl⟩
abbrev main_while0b_call7_v0 : Ref sig .tc := ⟨.hbm, 79, rfl⟩
abbrev main_while0b_v46 : Ref sig .tc := ⟨.hbm, 80, rfl⟩
abbrev main_while0b_call8_c : Ref sig .tc := ⟨.hbm, 81, rfl⟩
abbrev main_while0b_call8_v0 : Ref sig .tc := ⟨.hbm, 82, rfl⟩
abbrev main_while0b_v47 : Ref sig .tc := ⟨.hbm, 83, rfl⟩
abbrev main_while0b_call9_c : Ref sig .tc := ⟨.hbm, 84, rfl⟩
abbrev main_while0b_call9_c_0 : Ref sig .tc := ⟨.hbm, 85, rfl⟩
abbrev main_while0b_call9_v0 : Ref sig .tc := ⟨.hbm, 86, rfl⟩
abbrev main_while0b_v48 : Ref sig .tc := ⟨.hbm, 87, rfl⟩
abbrev main_while0b_call10_c : Ref sig .tc := ⟨.hbm, 88, rfl⟩
abbrev main_while0b_call10_v0 : Ref sig .tc := ⟨.hbm, 89, rfl⟩
abbrev main_while0b_v49 : Ref sig .tc := ⟨.hbm, 90, rfl⟩
abbrev main_while0b_call11_c : Ref sig .tc := ⟨.hbm, 91, rfl⟩
abbrev main_while0b_call11_c_0 : Ref sig .tc := ⟨.hbm, 92, rfl⟩
abbrev main_while0b_call11_v0 : Ref sig .tc := ⟨.hbm, 93, rfl⟩
abbrev main_while0b_v50 : Ref sig .tc := ⟨.hbm, 94, rfl⟩
abbrev main_while0b_call12_c : Ref sig .tc := ⟨.hbm, 95, rfl⟩
abbrev main_while0b_call12_v0 : Ref sig .tc := ⟨.hbm, 96, rfl⟩
abbrev main_while0b_v51 : Ref sig .tc := ⟨.hbm, 97, rfl⟩
abbrev main_while0b_cst_24 : Ref sig .tc := ⟨.hbm, 98, rfl⟩
abbrev main_while0b_v52 : Ref sig .tc := ⟨.hbm, 99, rfl⟩
abbrev main_while0b_v53 : Ref sig .tc := ⟨.hbm, 100, rfl⟩
abbrev main_while0b_cst_25 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_v58 : Ref sig .tc := ⟨.hbm, 106, rfl⟩
abbrev main_while0b_cst_26 : Ref sig .tc := ⟨.hbm, 107, rfl⟩
abbrev main_while0b_v59 : Ref sig .tc := ⟨.hbm, 108, rfl⟩
abbrev main_while0b_v60 : Ref sig .tc := ⟨.hbm, 109, rfl⟩
abbrev main_while0b_cst_27 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_cst_28 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_v75 : Ref sig .tc := ⟨.hbm, 126, rfl⟩
abbrev main_while0b_v76 : Ref sig .tc := ⟨.hbm, 127, rfl⟩
abbrev main_while0b_v77 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_v89 : Ref sig .tc := ⟨.hbm, 140, rfl⟩
abbrev main_while0b_cst_29 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_cst_30 : Ref sig .tc := ⟨.hbm, 147, rfl⟩
abbrev main_while0b_v95 : Ref sig .tc := ⟨.hbm, 148, rfl⟩
abbrev main_while0b_cst_31 : Ref sig .tc := ⟨.hbm, 149, rfl⟩
abbrev main_while0b_v96 : Ref sig .tc := ⟨.hbm, 150, rfl⟩
abbrev main_while0b_v97 : Ref sig .tc := ⟨.hbm, 151, rfl⟩
abbrev main_while0b_v98 : Ref sig .tc := ⟨.hbm, 152, rfl⟩
abbrev main_while0b_v99 : Ref sig .tc := ⟨.hbm, 153, rfl⟩
abbrev main_while0b_v100 : Ref sig .tc := ⟨.hbm, 154, rfl⟩
abbrev main_while0b_v101 : Ref sig .tc := ⟨.hbm, 155, rfl⟩
abbrev main_while0b_cst_32 : Ref sig .tc := ⟨.hbm, 156, rfl⟩
abbrev main_while0b_v102 : Ref sig .tc := ⟨.hbm, 157, rfl⟩
abbrev main_while0b_v103 : Ref sig .tc := ⟨.hbm, 158, rfl⟩
abbrev main_while0b_v104 : Ref sig .tc := ⟨.hbm, 159, rfl⟩
abbrev main_while0b_v105 : Ref sig .tc := ⟨.hbm, 160, rfl⟩
abbrev main_while0b_v106 : Ref sig .tc := ⟨.hbm, 161, rfl⟩
abbrev main_while0b_v107 : Ref sig .tc := ⟨.hbm, 162, rfl⟩
abbrev main_while0b_v108 : Ref sig .tc := ⟨.hbm, 163, rfl⟩
abbrev main_while0b_v109 : Ref sig .tc := ⟨.hbm, 164, rfl⟩
abbrev main_while0b_v110 : Ref sig .tc := ⟨.hbm, 165, rfl⟩
abbrev main_while0b_v111 : Ref sig .tc := ⟨.hbm, 166, rfl⟩
abbrev main_while0b_v112 : Ref sig .tc := ⟨.hbm, 167, rfl⟩
abbrev main_while0b_v113 : Ref sig .tc := ⟨.hbm, 168, rfl⟩
abbrev main_while0b_cst_33 : Ref sig .tc := ⟨.hbm, 169, rfl⟩
abbrev main_while0b_v114 : Ref sig .tc := ⟨.hbm, 170, rfl⟩
abbrev main_while0b_v115 : Ref sig .tc := ⟨.hbm, 171, rfl⟩
abbrev main_while0b_cst_34 : Ref sig .tc := ⟨.hbm, 172, rfl⟩
abbrev main_while0b_v116 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_cst_35 : Ref sig .tc := ⟨.hbm, 178, rfl⟩
abbrev main_while0b_v121 : Ref sig .tc := ⟨.hbm, 179, rfl⟩
abbrev main_while0b_v122 : Ref sig .tc := ⟨.hbm, 180, rfl⟩
abbrev main_while0b_cst_36 : Ref sig .tc := ⟨.hbm, 181, rfl⟩
abbrev main_while0b_v123 : Ref sig .tc := ⟨.hbm, 182, rfl⟩
abbrev main_while0b_v124 : Ref sig .tc := ⟨.hbm, 183, rfl⟩
abbrev main_while0b_v125 : Ref sig .tc := ⟨.hbm, 184, rfl⟩
abbrev main_while0b_v126 : Ref sig .tc := ⟨.hbm, 185, rfl⟩
abbrev main_while0b_cst_37 : Ref sig .tc := ⟨.hbm, 186, rfl⟩
abbrev main_while0b_v127 : Ref sig .tc := ⟨.hbm, 187, rfl⟩
abbrev main_while0b_v128 : Ref sig .tc := ⟨.hbm, 188, rfl⟩
abbrev main_while0b_v129 : Ref sig .tc := ⟨.hbm, 189, rfl⟩
abbrev main_while0b_v130 : Ref sig .tc := ⟨.hbm, 190, rfl⟩
abbrev main_while0b_v131 : Ref sig .tc := ⟨.hbm, 191, rfl⟩
abbrev main_while0b_v132 : Ref sig .tc := ⟨.hbm, 192, rfl⟩
abbrev main_while0b_v133 : Ref sig .tc := ⟨.hbm, 193, rfl⟩
abbrev main_while0b_v134 : Ref sig .tc := ⟨.hbm, 194, rfl⟩
abbrev main_while0b_v135 : Ref sig .tc := ⟨.hbm, 195, rfl⟩
abbrev main_while0b_v136 : Ref sig .tc := ⟨.hbm, 196, rfl⟩
abbrev main_while0b_v137 : Ref sig .tc := ⟨.hbm, 197, rfl⟩
abbrev main_while0b_v138 : Ref sig .tc := ⟨.hbm, 198, rfl⟩
abbrev main_while0b_v139 : Ref sig .tc := ⟨.hbm, 199, rfl⟩
abbrev main_while0b_v140 : Ref sig .tc := ⟨.hbm, 200, rfl⟩
abbrev main_while0b_v141 : Ref sig .tc := ⟨.hbm, 201, rfl⟩
abbrev main_while0b_v142 : Ref sig .tc := ⟨.hbm, 202, rfl⟩
abbrev main_while0b_v143 : Ref sig .tc := ⟨.hbm, 203, rfl⟩
abbrev main_while0b_cst_38 : Ref sig .tc := ⟨.hbm, 204, rfl⟩
abbrev main_while0b_v144 : Ref sig .tc := ⟨.hbm, 205, rfl⟩
abbrev main_while0b_v145 : Ref sig .tc := ⟨.hbm, 206, rfl⟩
abbrev main_while0b_v146 : Ref sig .tc := ⟨.hbm, 207, rfl⟩
abbrev main_while0b_cst_39 : Ref sig .tc := ⟨.hbm, 208, rfl⟩
abbrev main_while0b_v147 : Ref sig .tc := ⟨.hbm, 209, rfl⟩
abbrev main_while0b_v148 : Ref sig .tc := ⟨.hbm, 210, rfl⟩
abbrev main_while0b_v149 : Ref sig .tc := ⟨.hbm, 211, rfl⟩
abbrev main_while0b_cst_40 : Ref sig .tc := ⟨.hbm, 212, rfl⟩
abbrev main_while0b_v150 : Ref sig .tc := ⟨.hbm, 213, rfl⟩
abbrev main_while0b_v151 : Ref sig .tc := ⟨.hbm, 214, rfl⟩
abbrev main_while0b_cst_41 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_v156 : Ref sig .tc := ⟨.hbm, 220, rfl⟩
abbrev main_while0b_v157 : Ref sig .tc := ⟨.hbm, 221, rfl⟩
abbrev main_while0b_v158 : Ref sig .tc := ⟨.hbm, 222, rfl⟩
abbrev main_while0b_v159 : Ref sig .tc := ⟨.hbm, 223, rfl⟩
abbrev main_while0b_call13_v0 : Ref sig .tc := ⟨.hbm, 224, rfl⟩
abbrev main_while0b_call13_c : Ref sig .tc := ⟨.hbm, 225, rfl⟩
abbrev main_while0b_call13_c_0 : Ref sig .tc := ⟨.hbm, 226, rfl⟩
abbrev main_while0b_call13_c_1 : Ref sig .tc := ⟨.hbm, 227, rfl⟩
abbrev main_while0b_call13_c_2 : Ref sig .tc := ⟨.hbm, 228, rfl⟩
abbrev main_while0b_v160 : Ref sig .tc := ⟨.hbm, 229, rfl⟩
abbrev main_while0b_c_42 : Ref sig .tc := ⟨.hbm, 230, rfl⟩
abbrev main_while0b_v161 : Ref sig .tc := ⟨.hbm, 231, rfl⟩
abbrev main_cst_4 : Ref sig .tc := ⟨.hbm, 232, rfl⟩
abbrev main_v14 : Ref sig .tc := ⟨.hbm, 233, rfl⟩
abbrev main_v15 : Ref sig .tc := ⟨.hbm, 234, rfl⟩
abbrev main_cst_5 : Ref sig .tc := ⟨.hbm, 235, rfl⟩
abbrev main_v16 : Ref sig .tc := ⟨.hbm, 236, rfl⟩
abbrev main_v17 : Ref sig .tc := ⟨.hbm, 237, rfl⟩
abbrev main_v18 : Ref sig .tc := ⟨.hbm, 238, rfl⟩
abbrev main_v19 : Ref sig .tc := ⟨.hbm, 239, rfl⟩
abbrev main_v20 : Ref sig .tc := ⟨.hbm, 240, rfl⟩
abbrev main_cst_6 : Ref sig .tc := ⟨.hbm, 241, rfl⟩
abbrev main_v21 : Ref sig .tc := ⟨.hbm, 242, rfl⟩
abbrev main_v22 : Ref sig .tc := ⟨.hbm, 243, rfl⟩
abbrev main_cst_7 : Ref sig .tc := ⟨.hbm, 244, rfl⟩
abbrev main_v23 : Ref sig .tc := ⟨.hbm, 245, rfl⟩
abbrev main_v24 : Ref sig .tc := ⟨.hbm, 246, rfl⟩
abbrev main_v25 : Ref sig .tc := ⟨.hbm, 247, rfl⟩
abbrev main_v26 : Ref sig .tc := ⟨.hbm, 248, rfl⟩
abbrev main_cst_8 : Ref sig .tc := ⟨.hbm, 249, rfl⟩
abbrev main_v27 : Ref sig .tc := ⟨.hbm, 250, rfl⟩
abbrev main_v28 : Ref sig .tc := ⟨.hbm, 251, rfl⟩
abbrev main_v29 : Ref sig .tc := ⟨.hbm, 252, rfl⟩
abbrev main_v30 : Ref sig .tc := ⟨.hbm, 253, rfl⟩
abbrev main_v31 : Ref sig .tc := ⟨.hbm, 254, rfl⟩
abbrev main_v32 : Ref sig .tc := ⟨.hbm, 255, rfl⟩
abbrev main_v33 : Ref sig .tc := ⟨.hbm, 256, rfl⟩
abbrev main_v34 : Ref sig .tc := ⟨.hbm, 257, rfl⟩
abbrev main_v35 : Ref sig .tc := ⟨.hbm, 258, rfl⟩
abbrev main_v36 : Ref sig .tc := ⟨.hbm, 259, rfl⟩
abbrev main_v37 : Ref sig .tc := ⟨.hbm, 260, rfl⟩
abbrev main_v38 : Ref sig .tc := ⟨.hbm, 261, rfl⟩
abbrev main_v39 : Ref sig .tc := ⟨.hbm, 262, rfl⟩

abbrev nD : Nat := 1
abbrev τ : Topo := Topo.v7x

variable {F : FTy → Type} [FloatOps F]

abbrev main_while0_count : Scf.Loop 32 := ⟨0#32, 8#32, 1#32⟩
-- ==== Proof.KernelRun.lean ====
/-
  THE KERNEL'S RUN: every buffer of the program ends at what the last segment leaves in it.
-/
module

public import proofs.«01_k».proof.Proof.Gen.KernelIdeal.Frame

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with every buffer read at the end. -/
theorem run_buffers : θ_run defs (onTc (τ := τ) (main (F := F))) ⟨m, fun _ => 0, ρ⟩ (fun r =>
    ∀ c : Dev nD, ∀ b ∈ Pipeline.ucRefs τ sig, r.2.mem (((c : Thread nD τ)).1, b) = W25 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ => h)

end Cert.KernelIdeal

end
-- ==== Proof.AttnModel.lean ====
/-
  ONE BLOCK OF AN ATTENTION CALL, as the body computes it. A grid point holds one batch row: 256 positions of 1024 features. The body stores the 256 × 3072 product
  "query, key, value" in a scratch; then, per head, the scaled scores into the attention block; then, per head, the scores read back, their softmax stored over them; then, per
  head, the values weighted by the stored softmax into a scratch whose ROWS are the features; and last the output projection of that scratch added to the row it began with.
  Here those stores are listed by recursion on the head, so that one induction says what the buffers hold.
-/
module

public import proofs.«01_k».proof.Proof.Gen.KernelIdeal.Skeleton
public import Idealize.ShloMosaic.Lib.Pipeline.ReadBack

@[expose] public section

set_option maxRecDepth 16384

noncomputable section

namespace Cert.KernelIdeal

open Idealize.ShloMosaic Idealize.SL.Sem
open Gen

variable {F : FTy → Type} [FloatOps F]

/-! ## The rectangles -/

/-- Head `i`'s 256 × 256 square of an attention block. -/
def attRect (i : ℕ) (h : i < 16) : Rect S1x1x16x256x256 :=
  Rect.unit ![0, 0, i, 0, 0] S1x1x1x256x256.size (by intro a; fin_cases a <;> simp <;> omega)

/-- The 64 columns of the 256 × 3072 scratch that begin at column `o`. -/
def qkvRect (o : ℕ) (h : o + 64 ≤ 3072) : Rect S256x3072 :=
  Rect.unit ![0, o] S256x64.size (by intro a; fin_cases a <;> simp <;> omega)

/-- Head `i`'s 64 rows of the 1024 × 256 scratch. -/
def yRect (i : ℕ) (h : i < 16) : Rect S1024x256 :=
  Rect.unit ![64 * i, 0] S64x256.size (by intro a; fin_cases a <;> simp <;> omega)

/-! ## The stores -/

section
variable (vq : View sig .tc .vmem S256x3072 .f32) (va : View sig .tc .vmem S1x1x16x256x256 .f32) (vy : View sig .tc .vmem S1024x256 .f32)
  (Q : FVec F S256x3072 .f32)

/-- The one store into the "query, key, value" scratch. -/
def qkvPieces : List (View.Piece (Elt F) S256x3072 .f32) :=
  [⟨Rect.unit ![0, 0] S256x3072.size (by decide), Q⟩]

/-- Head `i`'s query columns, loaded from the scratch; the key and the value columns lie 1024 and 2048 further. -/
def loadQ (i : ℕ) (h : i < 16) : Vec F S256x64 .f32 := vq.readCov (qkvPieces Q) (qkvRect (64 * i) (by omega)).toLoadRect
@[inherit_doc loadQ] def loadK (i : ℕ) (h : i < 16) : Vec F S256x64 .f32 := vq.readCov (qkvPieces Q) (qkvRect (1024 + 64 * i) (by omega)).toLoadRect
@[inherit_doc loadQ] def loadV (i : ℕ) (h : i < 16) : Vec F S256x64 .f32 := vq.readCov (qkvPieces Q) (qkvRect (2048 + 64 * i) (by omega)).toLoadRect

/-- Head `i`'s square of the attention block, loaded after the stores `L`. -/
def loadAtt (L : List (View.Piece (Elt F) S1x1x16x256x256 .f32)) (i : ℕ) (h : i < 16) : Vec F S1x1x1x256x256 .f32 :=
  va.readCov L (attRect i h).toLoadRect

/-- The score stores of the first `n` heads, the last first. -/
def scorePieces : (n : ℕ) → n ≤ 16 → List (View.Piece (Elt F) S1x1x16x256x256 .f32)
  | 0, _ => []
  | n + 1, h => ⟨attRect n h, k2_pay3 (loadQ vq Q n h) (loadK vq Q n h)⟩ :: scorePieces n (Nat.le_of_succ_le h)

/-- All score stores, and over them the softmax stores of the first `n` heads, each of what it reads back. -/
def softPieces : (n : ℕ) → n ≤ 16 → List (View.Piece (Elt F) S1x1x16x256x256 .f32)
  | 0, _ => scorePieces vq Q 16 (le_refl _)
  | n + 1, h => ⟨attRect n h, k2_pay19 (loadAtt va (softPieces n (Nat.le_of_succ_le h)) n h)⟩
      :: softPieces n (Nat.le_of_succ_le h)

/-- The stores into the 1024 × 256 scratch of the first `n` heads. -/
def yPieces : (n : ℕ) → n ≤ 16 → List (View.Piece (Elt F) S1024x256 .f32)
  | 0, _ => []
  | n + 1, h => ⟨yRect n h, k2_pay43 (loadV vq Q n h) (loadAtt va (softPieces vq va Q 16 (le_refl _)) n h)⟩
      :: yPieces n (Nat.le_of_succ_le h)

/-- The 1024 × 256 scratch, loaded whole. -/
def loadY : Vec F S1024x256 .f32 :=
  vy.readCov (yPieces vq va Q 16 (le_refl _)) (Rect.unit ![0, 0] S1024x256.size (by decide)).toLoadRect

/-- The output projection of the stored heads, added to the row `b` the body read. -/
def projOf (b : Vec F S1x256x1024 .f32) (wp : Vec F S1x1024x1024 .f32) (bp : Vec F S1x1x1024 .f32) : FVec F S1x256x1024 .f32 :=
  k2_pay1 (k2_pay61 b (loadY vq va vy Q) wp) (k2_pay62 bp)

end

end Cert.KernelIdeal

end
-- ==== Proof.AttnBlock.lean ====
/-
  WHAT ONE BLOCK OF AN ATTENTION CALL LEAVES: by induction on the heads, the attention block holds each head's softmax of its scores, the 1024 × 256 scratch each head's weighted
  values, and so the row block the projection of those. The functions here are of the 256 × 3072 array "query, key, value" alone: no buffer is left in them.
-/
module

public import proofs.«01_k».proof.Proof.AttnModel
public import Idealize.ShloMosaic.Lib.Pointwise

@[expose] public section

set_option maxRecDepth 16384

noncomputable section

namespace Cert.KernelIdeal

open Idealize.ShloMosaic Idealize.SL.Sem
open Gen

variable {F : FTy → Type} [FloatOps F]

/-! ## The block functions -/

/-- 64 columns of `Q` from column `o`. -/
def cols (Q : FVec F S256x3072 .f32) (o : ℕ) (h : o + 64 ≤ 3072) : Vec F S256x64 .f32 := View.ld (Val := Elt F) (e' := .f32) Q (qkvRect o h)

/-- Head `i`'s scaled scores. -/
def scoreHead (Q : FVec F S256x3072 .f32) (i : ℕ) (h : i < 16) : FVec F S1x1x1x256x256 .f32 :=
  k2_pay3 (cols Q (64 * i) (by omega)) (cols Q (1024 + 64 * i) (by omega))

/-- Head `i`'s attention: the softmax of its scores. -/
def attHead (Q : FVec F S256x3072 .f32) (i : ℕ) (h : i < 16) : FVec F S1x1x1x256x256 .f32 := k2_pay19 (scoreHead Q i h)

/-- Head `i`'s values weighted by its attention, the features along the rows. -/
def outHead (Q : FVec F S256x3072 .f32) (i : ℕ) (h : i < 16) : FVec F S64x256 .f32 :=
  k2_pay43 (cols Q (2048 + 64 * i) (by omega)) (attHead Q i h)

/-- The attention block. -/
def attBlk (Q : FVec F S256x3072 .f32) : FVec F S1x1x16x256x256 .f32 := fun y => attHead Q (y 2).val (y 2).isLt (ix5 0 0 0 (y 3) (y 4))

/-- The weighted values of all heads, one under another. -/
def yBlk (Q : FVec F S256x3072 .f32) : FVec F S1024x256 .f32 := fun y =>
  outHead Q ((y 0).val / 64) (Nat.div_lt_of_lt_mul (y 0).isLt) (ix2 ⟨(y 0).val % 64, Nat.mod_lt _ (by decide)⟩ (y 1))

/-- The row block: the row read, plus the projected heads, plus the projection's bias. -/
def rowBlk (b : Vec F S1x256x1024 .f32) (Q : FVec F S256x3072 .f32) (wp : Vec F S1x1024x1024 .f32) (bp : Vec F S1x1x1024 .f32) :
    FVec F S1x256x1024 .f32 := k2_pay1 (k2_pay61 b (yBlk Q) wp) (k2_pay62 bp)

/-! ## Rectangles of different heads -/

theorem attRect_disj {i j : ℕ} (hi : i < 16) (hj : j < 16) (h : i ≠ j) (x : S1x1x1x256x256.Idx) : (attRect i hi).emb x ∉ (attRect j hj).set := by
  intro hm
  obtain ⟨k, hk, e⟩ := (attRect j hj).mem_set.mp hm (2 : Fin 5)
  have h1 : ((attRect i hi).emb x (2 : Fin 5) : ℕ) = i + 1 * (x 2 : ℕ) := rfl
  have h2 : (attRect j hj).off (2 : Fin 5) + (attRect j hj).stride (2 : Fin 5) * k = j + 1 * k := rfl
  have h3 : k < 1 := hk
  have h4 : (x 2 : ℕ) < 1 := (x 2).isLt
  rw [h2] at e
  have := h1.symm.trans e
  omega

theorem yRect_disj {i j : ℕ} (hi : i < 16) (hj : j < 16) (h : i ≠ j) (x : S64x256.Idx) : (yRect i hi).emb x ∉ (yRect j hj).set := by
  intro hm
  obtain ⟨k, hk, e⟩ := (yRect j hj).mem_set.mp hm (0 : Fin 2)
  have h1 : ((yRect i hi).emb x (0 : Fin 2) : ℕ) = 64 * i + 1 * (x 0 : ℕ) := rfl
  have h2 : (yRect j hj).off (0 : Fin 2) + (yRect j hj).stride (0 : Fin 2) * k = 64 * j + 1 * k := rfl
  have h3 : k < 64 := hk
  have h4 : (x 0 : ℕ) < 64 := (x 0).isLt
  rw [h2] at e
  have := h1.symm.trans e
  omega

/-! ## What the buffers hold -/

section
variable (vq : View sig .tc .vmem S256x3072 .f32) (va : View sig .tc .vmem S1x1x16x256x256 .f32) (vy : View sig .tc .vmem S1024x256 .f32)
  (Q : FVec F S256x3072 .f32)

theorem load_cols (o : ℕ) (h : o + 64 ≤ 3072) : vq.readCov (qkvPieces Q) (qkvRect o h).toLoadRect = cols Q o h := by
  unfold qkvPieces cols
  have hi : ∀ a : Fin 2, (![0, 0] : Fin 2 → ℕ) a + S256x3072.size a ≤ S256x3072.size a := by decide
  have hz : ∀ a : Fin 2, (![0, 0] : Fin 2 → ℕ) a = 0 := by decide
  exact View.readCov_fill (Val := Elt F) (e := .f32) (s := S256x3072) (off := ![0, 0]) vq hi Q [] (qkvRect o h) hz

/-- After the score stores, a stored head holds its scores. -/
theorem canon_score (n : ℕ) (h : n ≤ 16) (i : ℕ) (hn : i < n) (x : S1x1x1x256x256.Idx) :
    View.canon (scorePieces vq Q n h) ((attRect i (by omega)).emb x) = scoreHead Q i (by omega) x := by
  induction n with
  | zero => omega
  | succ n ih =>
    unfold scorePieces
    by_cases e : i = n
    · subst e
      refine (View.canon_cons_emb (Val := Elt F) (e := .f32) (attRect i h) _ _ x).trans ?_
      unfold loadQ loadK
      rw [load_cols, load_cols]; rfl
    · have hd := attRect_disj (show i < 16 by omega) h e x
      exact (View.canon_cons_of_not_mem (Val := Elt F) (e := .f32) ⟨attRect n h, k2_pay3 (loadQ vq Q n h) (loadK vq Q n h)⟩ _ hd).trans (ih _ (by omega))

/-- After the softmax stores of `n` heads, those hold their attention and the others their scores. -/
theorem canon_soft (n : ℕ) (h : n ≤ 16) (i : ℕ) (hi : i < 16) (x : S1x1x1x256x256.Idx) :
    View.canon (softPieces vq va Q n h) ((attRect i hi).emb x) = if i < n then attHead Q i hi x else scoreHead Q i hi x := by
  induction n generalizing i x with
  | zero => simpa [softPieces] using canon_score vq Q 16 (le_refl _) i hi x
  | succ n ih =>
    unfold softPieces
    by_cases e : i = n
    · subst e
      rw [if_pos (by omega)]
      refine (View.canon_cons_emb (Val := Elt F) (e := .f32) (attRect i h) _ _ x).trans ?_
      unfold attHead
      refine congrFun (congrArg k2_pay19 ?_) x
      unfold loadAtt
      rw [View.readCov_eq_canon']
      funext j
      have := ih (by omega) i hi j
      rw [if_neg (by omega)] at this
      exact this
    · have hd := attRect_disj hi h e x
      refine (View.canon_cons_of_not_mem (Val := Elt F) (e := .f32) ⟨attRect n h, k2_pay19 (loadAtt va (softPieces vq va Q n (Nat.le_of_succ_le h)) n h)⟩ _ hd).trans ((ih (by omega) i hi x).trans ?_)
      have : i < n ↔ i < n + 1 := by omega
      simp only [this]

/-- The loads of the finished attention block. -/
theorem load_att (i : ℕ) (h : i < 16) : loadAtt va (softPieces vq va Q 16 (le_refl _)) i h = attHead Q i h := by
  unfold loadAtt
  rw [View.readCov_eq_canon']
  funext x
  exact (canon_soft vq va Q 16 (le_refl _) i h x).trans (if_pos h)

/-- After the stores of `n` heads, a stored head's rows hold its weighted values. -/
theorem canon_y (n : ℕ) (h : n ≤ 16) (i : ℕ) (hn : i < n) (x : S64x256.Idx) :
    View.canon (yPieces vq va Q n h) ((yRect i (by omega)).emb x) = outHead Q i (by omega) x := by
  induction n with
  | zero => omega
  | succ n ih =>
    unfold yPieces
    by_cases e : i = n
    · subst e
      refine (View.canon_cons_emb (Val := Elt F) (e := .f32) (yRect i h) _ _ x).trans ?_
      rw [load_att]
      unfold loadV
      rw [load_cols]; rfl
    · have hd := yRect_disj (show i < 16 by omega) h e x
      exact (View.canon_cons_of_not_mem (Val := Elt F) (e := .f32) ⟨yRect n h, k2_pay43 (loadV vq Q n h) (loadAtt va (softPieces vq va Q 16 (le_refl _)) n h)⟩ _ hd).trans (ih _ (by omega))

/-- An index of the attention block is one of its head's square. -/
theorem att_idx (y : S1x1x16x256x256.Idx) : (attRect (y 2).val (y 2).isLt).emb (ix5 (n0 := 1) (n1 := 1) (n2 := 1) (n3 := 256) (n4 := 256) 0 0 0 (y 3) (y 4)) = y := by
  funext a
  apply Fin.ext
  have h0 : (y 0).val < 1 := (y 0).isLt
  have h1 : (y 1).val < 1 := (y 1).isLt
  have e : ∀ a, ((attRect (y 2).val (y 2).isLt).emb (ix5 (n0 := 1) (n1 := 1) (n2 := 1) (n3 := 256) (n4 := 256) 0 0 0 (y 3) (y 4)) a : ℕ)
      = (![0, 0, (y 2).val, 0, 0] : Fin 5 → ℕ) a + 1 * (ix5 (n0 := 1) (n1 := 1) (n2 := 1) (n3 := 256) (n4 := 256) 0 0 0 (y 3) (y 4) a : ℕ) := fun a => rfl
  rw [e]
  fin_cases a
  · show 0 + 1 * 0 = (y 0).val; omega
  · show 0 + 1 * 0 = (y 1).val; omega
  · show (y 2).val + 1 * 0 = (y 2).val; omega
  · show 0 + 1 * (y 3).val = (y 3).val; omega
  · show 0 + 1 * (y 4).val = (y 4).val; omega

/-- The attention block after all its stores. -/
theorem canon_att : View.canon (softPieces vq va Q 16 (le_refl _)) = attBlk Q := by
  funext y
  have := canon_soft vq va Q 16 (le_refl _) (y 2).val (y 2).isLt (ix5 0 0 0 (y 3) (y 4))
  rw [att_idx] at this
  exact this.trans (if_pos (y 2).isLt)

/-- An index of the scratch of weighted values is one of its head's rows. -/
theorem y_idx (y : S1024x256.Idx) : (yRect ((y 0).val / 64) (Nat.div_lt_of_lt_mul (y 0).isLt)).emb
    (ix2 (n0 := 64) (n1 := 256) ⟨(y 0).val % 64, Nat.mod_lt _ (by decide)⟩ (y 1)) = y := by
  funext a
  apply Fin.ext
  fin_cases a
  · show 64 * ((y 0).val / 64) + 1 * ((y 0).val % 64) = (y 0).val; omega
  · show 0 + 1 * (y 1).val = (y 1).val; omega

/-- The scratch of weighted values, loaded whole. -/
theorem loadY_eq : loadY vq va vy Q = yBlk Q := by
  unfold loadY
  rw [View.readCov_eq_canon']
  funext y
  have e : (Rect.unit ![0, 0] S1024x256.size (by decide) : Rect S1024x256).toLoadRect.idx y = y := by
    funext a; apply Fin.ext
    fin_cases a
    · show 0 + 1 * (y 0).val = (y 0).val; omega
    · show 0 + 1 * (y 1).val = (y 1).val; omega
  show View.canon (yPieces vq va Q 16 _) (LoadRect.idx _ y) = _
  rw [e]
  have := canon_y vq va Q 16 (le_refl _) ((y 0).val / 64) (Nat.div_lt_of_lt_mul (y 0).isLt) (ix2 ⟨(y 0).val % 64, Nat.mod_lt _ (by decide)⟩ (y 1))
  rw [y_idx] at this
  exact this

theorem projOf_eq (b : Vec F S1x256x1024 .f32) (wp : Vec F S1x1024x1024 .f32) (bp : Vec F S1x1x1024 .f32) :
    projOf vq va vy Q b wp bp = rowBlk b Q wp bp := by
  unfold projOf rowBlk; rw [loadY_eq]

end

/-! ## A whole window's buffer, loaded -/

/-- A load of all of a buffer that holds `x` reads `x`. -/
theorem load_whole {s : Shape} {e : EltTy} {sp : Space} (m : Memref sig .tc sp s e) (h : m.IsWhole) (x : s.Idx → Elt F e) {off : Fin s.rank → ℕ}
    (inb : ∀ a, off a + s.size a ≤ s.size a) (hz : ∀ a, off a = 0) :
    View.readAt (Elt F) m.view (Rect.unit off (no_index s.size) inb).toLoadRect (h.unread x) = x := by
  rw [show View.readAt (Elt F) m.view (Rect.unit off s.size inb).toLoadRect (h.unread x) = View.ld (m.view.read (Elt F) (h.unread x)) (Rect.unit off s.size inb) from rfl,
    h.read_unread, View.ld_unit_lit inb x hz]

end Cert.KernelIdeal

end
-- ==== Proof.AttnRegions.lean ====
/-
  WHAT EACH ATTENTION CALL LEAVES AT A GRID POINT, as the block functions of the blocks it reads. The seven calls of layers 2 to 8 run one body; the first layer's body first adds
  the modality embedding, keeps the sum in its output block and works on that.
-/
module

public import proofs.«01_k».proof.Proof.AttnBlock
public import proofs.«01_k».proof.Proof.Gen.KernelIdeal.Frame.Region0
public import proofs.«01_k».proof.Proof.Gen.KernelIdeal.Frame.Region2
public import proofs.«01_k».proof.Proof.Gen.KernelIdeal.Frame.Region4
public import proofs.«01_k».proof.Proof.Gen.KernelIdeal.Frame.Region6
public import proofs.«01_k».proof.Proof.Gen.KernelIdeal.Frame.Region8
public import proofs.«01_k».proof.Proof.Gen.KernelIdeal.Frame.Region10
public import proofs.«01_k».proof.Proof.Gen.KernelIdeal.Frame.Region12
public import proofs.«01_k».proof.Proof.Gen.KernelIdeal.Frame.Region14

@[expose] public section

set_option maxRecDepth 16384

noncomputable section

namespace Cert.KernelIdeal

open Idealize.ShloMosaic Idealize.ShloMosaic.TcCoe Idealize.ShloMosaic.Tactic Idealize.SL Idealize.SL.RA Idealize.SL.Sem
open Gen

variable {F : FTy → Type} [FloatOps F]

/-- The row block and the attention block of one grid point of layers 2 to 8. -/
def attnOut (x0 : Vec F S1x256x1024 .f32) (x1 x2 : Vec F S1x1x1024 .f32) (x3 : Vec F S1x1024x3072 .f32) (x4 : Vec F S1x1x3072 .f32)
    (x5 : Vec F S1x1024x1024 .f32) (x6 : Vec F S1x1x1024 .f32) : Vec F S1x256x1024 .f32 × Vec F S1x1x16x256x256 .f32 :=
  (rowBlk x0 (k2_pay2 x0 x1 x2 x3 x4) x5 x6, attBlk (k2_pay2 x0 x1 x2 x3 x4))

/-- The same of layer 1: `x1` is the modality embedding. -/
def attnOut0 (x0 : Vec F S1x256x1024 .f32) (x1 : Vec F S256x1024 .f32) (x2 x3 : Vec F S1x1x1024 .f32) (x4 : Vec F S1x1024x3072 .f32)
    (x5 : Vec F S1x1x3072 .f32) (x6 : Vec F S1x1024x1024 .f32) (x7 : Vec F S1x1x1024 .f32) : Vec F S1x256x1024 .f32 × Vec F S1x1x16x256x256 .f32 :=
  (rowBlk (k0_pay3 x0 x1) (k0_pay5 (k0_pay4 x0 x1 x2 x3 x4) x5) x6 x7, attBlk (k0_pay5 (k0_pay4 x0 x1 x2 x3 x4) x5))

section
variable (vr : View sig .tc .vmem S1x256x1024 .f32) (vo va : View sig .tc .vmem S1x1x16x256x256 .f32)
  (vq : View sig .tc .vmem S256x3072 .f32) (vy : View sig .tc .vmem S1024x256 .f32)

/-- The stores of a point, read back: from any views of the buffers. -/
theorem outs_read (Q : FVec F S256x3072 .f32) (b : Vec F S1x256x1024 .f32) (wp : Vec F S1x1024x1024 .f32) (bp : Vec F S1x1x1024 .f32)
    (L : List (View.Piece (Elt F) S1x256x1024 .f32)) :
    (vr.read (Elt F) (vr.writes (Elt F) vr.junk (⟨Rect.unit ![0, 0, 0] S1x256x1024.size (by decide), projOf vq va vy Q b wp bp⟩ :: L)),
      vo.read (Elt F) (vo.writes (Elt F) vo.junk (softPieces vq va Q 16 (le_refl _))))
    = (rowBlk b Q wp bp, attBlk Q) := by
  rw [View.read_writes_junk_eq_canon, View.read_writes_junk_eq_canon, canon_att, projOf_eq]
  have hz : ∀ a : Fin 3, (![0, 0, 0] : Fin 3 → ℕ) a = 0 := by decide
  have := View.canon_cons_unit_lit (Val := Elt F) (e := .f32) (S := S1x256x1024) (off := ![0, 0, 0]) (by decide) (rowBlk b Q wp bp) L hz
  exact congrArg (fun z => (z, attBlk Q)) this

end

section
variable (vo : View sig .tc .vmem S1x1x16x256x256 .f32) (vr : View sig .tc .vmem S1x256x1024 .f32)
  (va : View sig .tc .vmem S1x1x16x256x256 .f32) (vq : View sig .tc .vmem S256x3072 .f32) (vy : View sig .tc .vmem S1024x256 .f32)
  (m0 : Memref sig .tc .vmem S1x256x1024 .f32) (h0 : m0.IsWhole) (m1 m2 : Memref sig .tc .vmem S1x1x1024 .f32) (h1 : m1.IsWhole) (h2 : m2.IsWhole)
  (m3 : Memref sig .tc .vmem S1x1024x3072 .f32) (h3 : m3.IsWhole) (m4 : Memref sig .tc .vmem S1x1x3072 .f32) (h4 : m4.IsWhole)
  (m5 : Memref sig .tc .vmem S1x1024x1024 .f32) (h5 : m5.IsWhole) (m6 : Memref sig .tc .vmem S1x1x1024 .f32) (h6 : m6.IsWhole)
  (mm : Memref sig .tc .vmem S256x1024 .f32) (hm : mm.IsWhole)

/-- A load of all of the row block after one store of all of it. -/
theorem readCov_row (vb : View sig .tc .vmem S1x256x1024 .f32) (S : FVec F S1x256x1024 .f32) :
    vb.readCov (Val := Elt F) [⟨Rect.unit ![0, 0, 0] S1x256x1024.size (by decide), S⟩] (Rect.unit ![0, 0, 0] S1x256x1024.size (by decide)).toLoadRect = S := by
  have hi : ∀ a : Fin 3, (![0, 0, 0] : Fin 3 → ℕ) a + S1x256x1024.size a ≤ S1x256x1024.size a := by decide
  have hz : ∀ a : Fin 3, (![0, 0, 0] : Fin 3 → ℕ) a = 0 := by decide
  exact View.readCov_unit_lit (Val := Elt F) (e := .f32) (S := S1x256x1024) (off := ![0, 0, 0]) vb hi S hz

/-- A whole window's load. -/
def ldW {s : Shape} (m : Memref sig .tc .vmem s .f32) (h : m.IsWhole) (off : Fin s.rank → ℕ) (inb : ∀ a, off a + s.size a ≤ s.size a) (x : s.Idx → Elt F .f32) :
    s.Idx → Elt F .f32 := View.readAt (Elt F) m.view (Rect.unit off s.size inb).toLoadRect (h.unread x)

theorem ldW_eq {s : Shape} (m : Memref sig .tc .vmem s .f32) (h : m.IsWhole) (off : Fin s.rank → ℕ) (inb : ∀ a, off a + s.size a ≤ s.size a)
    (x : s.Idx → Elt F .f32) (hz : ∀ a, off a = 0) : ldW m h off inb x = x := load_whole m h x inb hz

/-- The stores of a point of layers 2 to 8, its loads included. -/
theorem attn_read (x0 : Vec F S1x256x1024 .f32) (x1 x2 : Vec F S1x1x1024 .f32) (x3 : Vec F S1x1024x3072 .f32) (x4 : Vec F S1x1x3072 .f32)
    (x5 : Vec F S1x1024x1024 .f32) (x6 : Vec F S1x1x1024 .f32) (Q : FVec F S256x3072 .f32)
    (hQ : Q = k2_pay2 (ldW m0 h0 ![0, 0, 0] (by decide) x0) (ldW m1 h1 ![0, 0, 0] (by decide) x1)
      (ldW m2 h2 ![0, 0, 0] (by decide) x2) (ldW m3 h3 ![0, 0, 0] (by decide) x3) (ldW m4 h4 ![0, 0, 0] (by decide) x4)) :
    (vr.read (Elt F) (vr.writes (Elt F) vr.junk [⟨Rect.unit ![0, 0, 0] S1x256x1024.size (by decide),
        projOf vq va vy Q (ldW m0 h0 ![0, 0, 0] (by decide) x0) (ldW m5 h5 ![0, 0, 0] (by decide) x5) (ldW m6 h6 ![0, 0, 0] (by decide) x6)⟩]),
      vo.read (Elt F) (vo.writes (Elt F) vo.junk (softPieces vq va Q 16 (le_refl _))))
    = attnOut x0 x1 x2 x3 x4 x5 x6 := by
  have hz : ∀ a : Fin 3, (![0, 0, 0] : Fin 3 → ℕ) a = 0 := by decide
  rw [outs_read, hQ]
  unfold attnOut
  rw [ldW_eq m0 h0 _ _ x0 hz, ldW_eq m1 h1 _ _ x1 hz, ldW_eq m2 h2 _ _ x2 hz, ldW_eq m3 h3 _ _ x3 hz, ldW_eq m4 h4 _ _ x4 hz, ldW_eq m5 h5 _ _ x5 hz,
    ldW_eq m6 h6 _ _ x6 hz]

/-- The stores of a point of layer 1, its loads included; `vr` is the output block, in which the sum with the embedding is kept. -/
theorem attn_read0 (x0 : Vec F S1x256x1024 .f32) (xm : Vec F S256x1024 .f32) (x1 x2 : Vec F S1x1x1024 .f32) (x3 : Vec F S1x1024x3072 .f32)
    (x4 : Vec F S1x1x3072 .f32) (x5 : Vec F S1x1024x1024 .f32) (x6 : Vec F S1x1x1024 .f32) (Q : FVec F S256x3072 .f32) (vb : View sig .tc .vmem S1x256x1024 .f32)
    (S : FVec F S1x256x1024 .f32) (hS : S = k0_pay3 (ldW m0 h0 ![0, 0, 0] (by decide) x0) (ldW mm hm ![0, 0] (by decide) xm))
    (hQ : Q = k0_pay5 (k0_pay4 (ldW m0 h0 ![0, 0, 0] (by decide) x0) (ldW mm hm ![0, 0] (by decide) xm) (ldW m1 h1 ![0, 0, 0] (by decide) x1)
      (ldW m2 h2 ![0, 0, 0] (by decide) x2) (ldW m3 h3 ![0, 0, 0] (by decide) x3)) (ldW m4 h4 ![0, 0, 0] (by decide) x4)) :
    (vr.read (Elt F) (vr.writes (Elt F) vr.junk [⟨Rect.unit ![0, 0, 0] S1x256x1024.size (by decide),
        projOf vq va vy Q (vb.readCov (Val := Elt F) [⟨Rect.unit ![0, 0, 0] S1x256x1024.size (by decide), S⟩] (Rect.unit ![0, 0, 0] S1x256x1024.size (by decide)).toLoadRect)
          (ldW m5 h5 ![0, 0, 0] (by decide) x5) (ldW m6 h6 ![0, 0, 0] (by decide) x6)⟩,
        ⟨Rect.unit ![0, 0, 0] S1x256x1024.size (by decide), S⟩]),
      vo.read (Elt F) (vo.writes (Elt F) vo.junk (softPieces vq va Q 16 (le_refl _))))
    = attnOut0 x0 xm x1 x2 x3 x4 x5 x6 := by
  have hz : ∀ a : Fin 3, (![0, 0, 0] : Fin 3 → ℕ) a = 0 := by decide
  have hz2 : ∀ a : Fin 2, (![0, 0] : Fin 2 → ℕ) a = 0 := by decide
  have hb : vb.readCov (Val := Elt F) [⟨Rect.unit ![0, 0, 0] S1x256x1024.size (by decide), S⟩] (Rect.unit ![0, 0, 0] S1x256x1024.size (by decide)).toLoadRect = S :=
    readCov_row vb S
  rw [outs_read, hb, hS, hQ]
  unfold attnOut0
  rw [ldW_eq m0 h0 _ _ x0 hz, ldW_eq m1 h1 _ _ x1 hz, ldW_eq m2 h2 _ _ x2 hz, ldW_eq m3 h3 _ _ x3 hz, ldW_eq m4 h4 _ _ x4 hz, ldW_eq m5 h5 _ _ x5 hz,
    ldW_eq m6 h6 _ _ x6 hz, ldW_eq mm hm _ _ xm hz2]

end

section
variable (V : Dev nD → (b : Ref sig .tc) → b.ty.Contents (Elt F)) (c : Dev nD)

theorem outsAt0_eq (t : Fin cfg0.N) : outsAt0 V c t = attnOut0 (iblk0 V c 0 t) (iblk0 V c 1 t) (iblk0 V c 2 t) (iblk0 V c 3 t) (iblk0 V c 4 t)
    (iblk0 V c 5 t) (iblk0 V c 6 t) (iblk0 V c 7 t) := by
  unfold outsAt0; unfold out0_A_8 out0_A_9 kernelRun0_A; dsimp only
  exact attn_read0 VO0_9 VO0_8 (ms0_9 t).view scM0_0.view scM0_1.view (ms0_0 t) (hs0_0 t) (ms0_2 t) (ms0_3 t) (hs0_2 t) (hs0_3 t) (ms0_4 t) (hs0_4 t) (ms0_5 t) (hs0_5 t)
    (ms0_6 t) (hs0_6 t) (ms0_7 t) (hs0_7 t) (ms0_1 t) (hs0_1 t) _ _ _ _ _ _ _ _ _ (ms0_8 t).view _ rfl rfl

theorem outsAt2_eq (t : Fin cfg2.N) : outsAt2 V c t = attnOut (iblk2 V c 0 t) (iblk2 V c 1 t) (iblk2 V c 2 t) (iblk2 V c 3 t) (iblk2 V c 4 t)
    (iblk2 V c 5 t) (iblk2 V c 6 t) := by
  unfold outsAt2; unfold out2_A_7 out2_A_8 kernelRun2_A; dsimp only
  exact attn_read VO2_8 VO2_7 (ms2_8 t).view scM2_0.view scM2_1.view (ms2_0 t) (hs2_0 t) (ms2_1 t) (ms2_2 t) (hs2_1 t) (hs2_2 t) (ms2_3 t) (hs2_3 t) (ms2_4 t) (hs2_4 t)
    (ms2_5 t) (hs2_5 t) (ms2_6 t) (hs2_6 t) _ _ _ _ _ _ _ _ rfl

theorem outsAt4_eq (t : Fin cfg4.N) : outsAt4 V c t = attnOut (iblk4 V c 0 t) (iblk4 V c 1 t) (iblk4 V c 2 t) (iblk4 V c 3 t) (iblk4 V c 4 t)
    (iblk4 V c 5 t) (iblk4 V c 6 t) := by
  unfold outsAt4; unfold out4_A_7 out4_A_8 kernelRun4_A; dsimp only
  exact attn_read VO4_8 VO4_7 (ms4_8 t).view scM4_0.view scM4_1.view (ms4_0 t) (hs4_0 t) (ms4_1 t) (ms4_2 t) (hs4_1 t) (hs4_2 t) (ms4_3 t) (hs4_3 t) (ms4_4 t) (hs4_4 t)
    (ms4_5 t) (hs4_5 t) (ms4_6 t) (hs4_6 t) _ _ _ _ _ _ _ _ rfl

theorem outsAt6_eq (t : Fin cfg6.N) : outsAt6 V c t = attnOut (iblk6 V c 0 t) (iblk6 V c 1 t) (iblk6 V c 2 t) (iblk6 V c 3 t) (iblk6 V c 4 t)
    (iblk6 V c 5 t) (iblk6 V c 6 t) := by
  unfold outsAt6; unfold out6_A_7 out6_A_8 kernelRun6_A; dsimp only
  exact attn_read VO6_8 VO6_7 (ms6_8 t).view scM6_0.view scM6_1.view (ms6_0 t) (hs6_0 t) (ms6_1 t) (ms6_2 t) (hs6_1 t) (hs6_2 t) (ms6_3 t) (hs6_3 t) (ms6_4 t) (hs6_4 t)
    (ms6_5 t) (hs6_5 t) (ms6_6 t) (hs6_6 t) _ _ _ _ _ _ _ _ rfl

theorem outsAt8_eq (t : Fin cfg8.N) : outsAt8 V c t = attnOut (iblk8 V c 0 t) (iblk8 V c 1 t) (iblk8 V c 2 t) (iblk8 V c 3 t) (iblk8 V c 4 t)
    (iblk8 V c 5 t) (iblk8 V c 6 t) := by
  unfold outsAt8; unfold out8_A_7 out8_A_8 kernelRun8_A; dsimp only
  exact attn_read VO8_8 VO8_7 (ms8_8 t).view scM8_0.view scM8_1.view (ms8_0 t) (hs8_0 t) (ms8_1 t) (ms8_2 t) (hs8_1 t) (hs8_2 t) (ms8_3 t) (hs8_3 t) (ms8_4 t) (hs8_4 t)
    (ms8_5 t) (hs8_5 t) (ms8_6 t) (hs8_6 t) _ _ _ _ _ _ _ _ rfl

theorem outsAt10_eq (t : Fin cfg10.N) : outsAt10 V c t = attnOut (iblk10 V c 0 t) (iblk10 V c 1 t) (iblk10 V c 2 t) (iblk10 V c 3 t) (iblk10 V c 4 t)
    (iblk10 V c 5 t) (iblk10 V c 6 t) := by
  unfold outsAt10; unfold out10_A_7 out10_A_8 kernelRun10_A; dsimp only
  exact attn_read VO10_8 VO10_7 (ms10_8 t).view scM10_0.view scM10_1.view (ms10_0 t) (hs10_0 t) (ms10_1 t) (ms10_2 t) (hs10_1 t) (hs10_2 t) (ms10_3 t) (hs10_3 t) (ms10_4 t) (hs10_4 t)
    (ms10_5 t) (hs10_5 t) (ms10_6 t) (hs10_6 t) _ _ _ _ _ _ _ _ rfl

theorem outsAt12_eq (t : Fin cfg12.N) : outsAt12 V c t = attnOut (iblk12 V c 0 t) (iblk12 V c 1 t) (iblk12 V c 2 t) (iblk12 V c 3 t) (iblk12 V c 4 t)
    (iblk12 V c 5 t) (iblk12 V c 6 t) := by
  unfold outsAt12; unfold out12_A_7 out12_A_8 kernelRun12_A; dsimp only
  exact attn_read VO12_8 VO12_7 (ms12_8 t).view scM12_0.view scM12_1.view (ms12_0 t) (hs12_0 t) (ms12_1 t) (ms12_2 t) (hs12_1 t) (hs12_2 t) (ms12_3 t) (hs12_3 t) (ms12_4 t) (hs12_4 t)
    (ms12_5 t) (hs12_5 t) (ms12_6 t) (hs12_6 t) _ _ _ _ _ _ _ _ rfl

theorem outsAt14_eq (t : Fin cfg14.N) : outsAt14 V c t = attnOut (iblk14 V c 0 t) (iblk14 V c 1 t) (iblk14 V c 2 t) (iblk14 V c 3 t) (iblk14 V c 4 t)
    (iblk14 V c 5 t) (iblk14 V c 6 t) := by
  unfold outsAt14; unfold out14_A_7 out14_A_8 kernelRun14_A; dsimp only
  exact attn_read VO14_8 VO14_7 (ms14_8 t).view scM14_0.view scM14_1.view (ms14_0 t) (hs14_0 t) (ms14_1 t) (ms14_2 t) (hs14_1 t) (hs14_2 t) (ms14_3 t) (hs14_3 t) (ms14_4 t) (hs14_4 t)
    (ms14_5 t) (hs14_5 t) (ms14_6 t) (hs14_6 t) _ _ _ _ _ _ _ _ rfl

end

end Cert.KernelIdeal

end
-- ==== Proof.FfRegions.lean ====
/-
  WHAT EACH FEED-FORWARD CALL LEAVES AT A GRID POINT, as functions of the blocks it reads. The body keeps the normalised row in a scratch and adds the hidden layer's two halves of
  2048 features one after the other. The last layer's body also normalises the row's first position into the pooled block.
-/
module

public import proofs.«01_k».proof.Proof.AttnRegions
public import proofs.«01_k».proof.Proof.Gen.KernelIdeal.Frame.Region1
public import proofs.«01_k».proof.Proof.Gen.KernelIdeal.Frame.Region3
public import proofs.«01_k».proof.Proof.Gen.KernelIdeal.Frame.Region5
public import proofs.«01_k».proof.Proof.Gen.KernelIdeal.Frame.Region7
public import proofs.«01_k».proof.Proof.Gen.KernelIdeal.Frame.Region9
public import proofs.«01_k».proof.Proof.Gen.KernelIdeal.Frame.Region11
public import proofs.«01_k».proof.Proof.Gen.KernelIdeal.Frame.Region13
public import proofs.«01_k».proof.Proof.Gen.KernelIdeal.Frame.Region15

@[expose] public section

set_option maxRecDepth 16384

noncomputable section

namespace Cert.KernelIdeal

open Idealize.ShloMosaic Idealize.ShloMosaic.TcCoe Idealize.ShloMosaic.Tactic Idealize.SL Idealize.SL.RA Idealize.SL.Sem
open Gen

variable {F : FTy → Type} [FloatOps F]

/-! ## The halves of the weights -/

/-- The 2048 columns of the first weight that begin at column `o`. -/
def wfcRect (o : ℕ) (h : o + 2048 ≤ 4096) : Rect S1x1024x4096 :=
  Rect.unit ![0, 0, o] S1x1024x2048.size (by intro a; fin_cases a <;> simp <;> omega)

/-- The same of its bias. -/
def bfcRect (o : ℕ) (h : o + 2048 ≤ 4096) : Rect S1x1x4096 :=
  Rect.unit ![0, 0, o] S1x1x2048.size (by intro a; fin_cases a <;> simp <;> omega)

/-- The 2048 rows of the second weight that begin at row `o`. -/
def woutRect (o : ℕ) (h : o + 2048 ≤ 4096) : Rect S1x4096x1024 :=
  Rect.unit ![0, o, 0] S1x2048x1024.size (by intro a; fin_cases a <;> simp <;> omega)

@[inherit_doc wfcRect] def wfcHalf (x : Vec F S1x1024x4096 .f32) (o : ℕ) (h : o + 2048 ≤ 4096) : Vec F S1x1024x2048 .f32 := View.ld (Val := Elt F) (e' := .f32) x (wfcRect o h)
@[inherit_doc bfcRect] def bfcHalf (x : Vec F S1x1x4096 .f32) (o : ℕ) (h : o + 2048 ≤ 4096) : Vec F S1x1x2048 .f32 := View.ld (Val := Elt F) (e' := .f32) x (bfcRect o h)
@[inherit_doc woutRect] def woutHalf (x : Vec F S1x4096x1024 .f32) (o : ℕ) (h : o + 2048 ≤ 4096) : Vec F S1x2048x1024 .f32 := View.ld (Val := Elt F) (e' := .f32) x (woutRect o h)

/-! ## The block functions -/

/-- The row after the first half of the hidden features. -/
def ffLo (x0 : Vec F S1x256x1024 .f32) (x1 x2 : Vec F S1x1x1024 .f32) (x3 : Vec F S1x1024x4096 .f32) (x4 : Vec F S1x1x4096 .f32)
    (x5 : Vec F S1x4096x1024 .f32) (x6 : Vec F S1x1x1024 .f32) : FVec F S256x1024 .f32 :=
  k1_pay4 (k1_pay3 x0 x6) (k1_pay2 x0 x1 x2) (wfcHalf x3 0 (by omega)) (bfcHalf x4 0 (by omega)) (woutHalf x5 0 (by omega))

/-- The row block of one grid point. -/
def ffOut (x0 : Vec F S1x256x1024 .f32) (x1 x2 : Vec F S1x1x1024 .f32) (x3 : Vec F S1x1024x4096 .f32) (x4 : Vec F S1x1x4096 .f32)
    (x5 : Vec F S1x4096x1024 .f32) (x6 : Vec F S1x1x1024 .f32) : FVec F S1x256x1024 .f32 :=
  k1_pay1 (ffLo x0 x1 x2 x3 x4 x5 x6) (k1_pay5 (k1_pay2 x0 x1 x2) (wfcHalf x3 2048 (by omega)) (bfcHalf x4 2048 (by omega)))
    (k1_pay6 (k1_pay2 x0 x1 x2) (wfcHalf x3 2048 (by omega)) (bfcHalf x4 2048 (by omega))) (woutHalf x5 2048 (by omega))

/-- The first position of a row block, as a rectangle. -/
def firstRect : Rect S1x256x1024 := Rect.unit ![0, 0, 0] S1x1x1024.size (by decide)

/-- The first position of a row block. -/
def firstPos (r : FVec F S1x256x1024 .f32) : Vec F S1x1x1024 .f32 :=
  View.ld (Val := Elt F) (e' := .f32) r firstRect

/-- The pooled block: the first position, normalised. -/
def poolOut (r : FVec F S1x256x1024 .f32) (x7 x8 : Vec F S1x1024 .f32) : FVec F S1x1x1024 .f32 :=
  k15_pay1 (k15_pay8 x7) (k15_pay9 x8) (k15_pay10 (firstPos r)) (k15_pay11 (firstPos r)) k15_pay12

/-! ## The stores, read back -/

/-- A load of part of a buffer that holds `x`. -/
def ldP {s : Shape} (m : Memref sig .tc .vmem s .f32) (h : m.IsWhole) (r : Rect s) (x : s.Idx → Elt F .f32) : r.shape.Idx → Elt F .f32 :=
  View.readAt (Elt F) m.view r.toLoadRect (h.unread x)

theorem ldP_eq {s : Shape} (m : Memref sig .tc .vmem s .f32) (h : m.IsWhole) (r : Rect s) (x : s.Idx → Elt F .f32) : ldP m h r x = View.ld (Val := Elt F) (e' := .f32) x r := by
  unfold ldP
  rw [View.readAt_eq_ld, h.read_unread]

/-- The scratch of the normalised row, loaded. -/
def loadA (va : View sig .tc .vmem S256x1024 .f32) (A : FVec F S256x1024 .f32) : Vec F S256x1024 .f32 :=
  va.readCov (Val := Elt F) [⟨Rect.unit ![0, 0] S256x1024.size (by decide), A⟩] (Rect.unit ![0, 0] S256x1024.size (by decide)).toLoadRect

theorem loadA_eq (va : View sig .tc .vmem S256x1024 .f32) (A : FVec F S256x1024 .f32) : loadA va A = A := by
  unfold loadA
  have hi : ∀ a : Fin 2, (![0, 0] : Fin 2 → ℕ) a + S256x1024.size a ≤ S256x1024.size a := by decide
  have hz : ∀ a : Fin 2, (![0, 0] : Fin 2 → ℕ) a = 0 := by decide
  exact View.readCov_unit_lit (Val := Elt F) (e := .f32) (S := S256x1024) (off := ![0, 0]) va hi A hz

section
variable (vr : View sig .tc .vmem S1x256x1024 .f32) (va : View sig .tc .vmem S256x1024 .f32)
  (m0 : Memref sig .tc .vmem S1x256x1024 .f32) (h0 : m0.IsWhole) (m1 m2 : Memref sig .tc .vmem S1x1x1024 .f32) (h1 : m1.IsWhole) (h2 : m2.IsWhole)
  (m3 : Memref sig .tc .vmem S1x1024x4096 .f32) (h3 : m3.IsWhole) (m4 : Memref sig .tc .vmem S1x1x4096 .f32) (h4 : m4.IsWhole)
  (m5 : Memref sig .tc .vmem S1x4096x1024 .f32) (h5 : m5.IsWhole) (m6 : Memref sig .tc .vmem S1x1x1024 .f32) (h6 : m6.IsWhole)
  (x0 : Vec F S1x256x1024 .f32) (x1 x2 : Vec F S1x1x1024 .f32) (x3 : Vec F S1x1024x4096 .f32) (x4 : Vec F S1x1x4096 .f32)
  (x5 : Vec F S1x4096x1024 .f32) (x6 : Vec F S1x1x1024 .f32)

/-- The normalised row, of the loads. -/
def ffA : FVec F S256x1024 .f32 :=
  k1_pay2 (ldW m0 h0 ![0, 0, 0] (by decide) x0) (ldW m1 h1 ![0, 0, 0] (by decide) x1) (ldW m2 h2 ![0, 0, 0] (by decide) x2)

/-- The row block, of the loads. -/
def ffLoad : FVec F S1x256x1024 .f32 :=
  k1_pay1 (k1_pay4 (k1_pay3 (ldW m0 h0 ![0, 0, 0] (by decide) x0) (ldW m6 h6 ![0, 0, 0] (by decide) x6)) (loadA va (ffA m0 h0 m1 m2 h1 h2 x0 x1 x2))
      (ldP m3 h3 (wfcRect 0 (by omega)) x3) (ldP m4 h4 (bfcRect 0 (by omega)) x4) (ldP m5 h5 (woutRect 0 (by omega)) x5))
    (k1_pay5 (loadA va (ffA m0 h0 m1 m2 h1 h2 x0 x1 x2)) (ldP m3 h3 (wfcRect 2048 (by omega)) x3) (ldP m4 h4 (bfcRect 2048 (by omega)) x4))
    (k1_pay6 (loadA va (ffA m0 h0 m1 m2 h1 h2 x0 x1 x2)) (ldP m3 h3 (wfcRect 2048 (by omega)) x3) (ldP m4 h4 (bfcRect 2048 (by omega)) x4))
    (ldP m5 h5 (woutRect 2048 (by omega)) x5)

theorem ffLoad_eq : ffLoad va m0 h0 m1 m2 h1 h2 m3 h3 m4 h4 m5 h5 m6 h6 x0 x1 x2 x3 x4 x5 x6 = ffOut x0 x1 x2 x3 x4 x5 x6 := by
  have hz : ∀ a : Fin 3, (![0, 0, 0] : Fin 3 → ℕ) a = 0 := by decide
  unfold ffLoad ffOut ffLo
  rw [loadA_eq]
  unfold ffA
  rw [ldW_eq m0 h0 _ _ x0 hz, ldW_eq m1 h1 _ _ x1 hz, ldW_eq m2 h2 _ _ x2 hz, ldW_eq m6 h6 _ _ x6 hz]
  simp only [ldP_eq]
  rfl

/-- The one store of a row block, read back. -/
theorem row_read (r : FVec F S1x256x1024 .f32) :
    vr.read (Elt F) (vr.writes (Elt F) vr.junk [⟨Rect.unit ![0, 0, 0] S1x256x1024.size (by decide), r⟩]) = r := by
  have hi : ∀ a : Fin 3, (![0, 0, 0] : Fin 3 → ℕ) a + S1x256x1024.size a ≤ S1x256x1024.size a := by decide
  have hz : ∀ a : Fin 3, (![0, 0, 0] : Fin 3 → ℕ) a = 0 := by decide
  rw [View.read_writes_junk_eq_canon]
  exact View.canon_cons_unit_lit (Val := Elt F) (e := .f32) (S := S1x256x1024) (off := ![0, 0, 0]) hi r [] hz

theorem ff_read :
    vr.read (Elt F) (vr.writes (Elt F) vr.junk [⟨Rect.unit ![0, 0, 0] S1x256x1024.size (by decide),
      ffLoad va m0 h0 m1 m2 h1 h2 m3 h3 m4 h4 m5 h5 m6 h6 x0 x1 x2 x3 x4 x5 x6⟩]) = ffOut x0 x1 x2 x3 x4 x5 x6 := by
  rw [row_read, ffLoad_eq]

/-- The first position of the row block, loaded after its store. -/
def loadFirst (vb : View sig .tc .vmem S1x256x1024 .f32) (r : FVec F S1x256x1024 .f32) : Vec F S1x1x1024 .f32 :=
  vb.readCov (Val := Elt F) [⟨Rect.unit ![0, 0, 0] S1x256x1024.size (by decide), r⟩] firstRect.toLoadRect

theorem loadFirst_eq (vb : View sig .tc .vmem S1x256x1024 .f32) (r : FVec F S1x256x1024 .f32) : loadFirst vb r = firstPos r := by
  have hi : ∀ a : Fin 3, (![0, 0, 0] : Fin 3 → ℕ) a + S1x256x1024.size a ≤ S1x256x1024.size a := by decide
  have hz : ∀ a : Fin 3, (![0, 0, 0] : Fin 3 → ℕ) a = 0 := by decide
  unfold loadFirst firstPos
  exact View.readCov_fill (Val := Elt F) (e := .f32) (s := S1x256x1024) (off := ![0, 0, 0]) vb hi r [] firstRect hz

theorem pool_read (vp : View sig .tc .vmem S1x1x1024 .f32) (vb : View sig .tc .vmem S1x256x1024 .f32)
    (m7 m8 : Memref sig .tc .vmem S1x1024 .f32) (h7 : m7.IsWhole) (h8 : m8.IsWhole) (x7 x8 : Vec F S1x1024 .f32) :
    (vr.read (Elt F) (vr.writes (Elt F) vr.junk [⟨Rect.unit ![0, 0, 0] S1x256x1024.size (by decide),
        ffLoad va m0 h0 m1 m2 h1 h2 m3 h3 m4 h4 m5 h5 m6 h6 x0 x1 x2 x3 x4 x5 x6⟩]),
      vp.read (Elt F) (vp.writes (Elt F) vp.junk [⟨Rect.unit ![0, 0, 0] S1x1x1024.size (by decide),
        k15_pay1 (k15_pay8 (ldW m7 h7 ![0, 0] (by decide) x7)) (k15_pay9 (ldW m8 h8 ![0, 0] (by decide) x8))
          (k15_pay10 (loadFirst vb (ffLoad va m0 h0 m1 m2 h1 h2 m3 h3 m4 h4 m5 h5 m6 h6 x0 x1 x2 x3 x4 x5 x6)))
          (k15_pay11 (loadFirst vb (ffLoad va m0 h0 m1 m2 h1 h2 m3 h3 m4 h4 m5 h5 m6 h6 x0 x1 x2 x3 x4 x5 x6))) k15_pay12⟩]))
    = (ffOut x0 x1 x2 x3 x4 x5 x6, poolOut (ffOut x0 x1 x2 x3 x4 x5 x6) x7 x8) := by
  have hi : ∀ a : Fin 3, (![0, 0, 0] : Fin 3 → ℕ) a + S1x1x1024.size a ≤ S1x1x1024.size a := by decide
  have hz : ∀ a : Fin 3, (![0, 0, 0] : Fin 3 → ℕ) a = 0 := by decide
  have hz2 : ∀ a : Fin 2, (![0, 0] : Fin 2 → ℕ) a = 0 := by decide
  rw [ff_read, View.read_writes_junk_eq_canon, loadFirst_eq, ffLoad_eq, ldW_eq m7 h7 _ _ x7 hz2, ldW_eq m8 h8 _ _ x8 hz2]
  exact congrArg (fun z => (ffOut x0 x1 x2 x3 x4 x5 x6, z))
    (View.canon_cons_unit_lit (Val := Elt F) (e := .f32) (S := S1x1x1024) (off := ![0, 0, 0]) hi (poolOut (ffOut x0 x1 x2 x3 x4 x5 x6) x7 x8) [] hz)

end

section
variable (V : Dev nD → (b : Ref sig .tc) → b.ty.Contents (Elt F)) (c : Dev nD)

theorem outsAt1_eq (t : Fin cfg1.N) : outsAt1 V c t = ffOut (iblk1 V c 0 t) (iblk1 V c 1 t) (iblk1 V c 2 t) (iblk1 V c 3 t) (iblk1 V c 4 t)
    (iblk1 V c 5 t) (iblk1 V c 6 t) := by
  unfold outsAt1; unfold out1_A_7 kernelRun1_A; dsimp only
  exact ff_read VO1_7 scM1_0.view (ms1_0 t) (hs1_0 t) (ms1_1 t) (ms1_2 t) (hs1_1 t) (hs1_2 t) (ms1_3 t) (hs1_3 t) (ms1_4 t) (hs1_4 t)
    (ms1_5 t) (hs1_5 t) (ms1_6 t) (hs1_6 t) _ _ _ _ _ _ _

theorem outsAt3_eq (t : Fin cfg3.N) : outsAt3 V c t = ffOut (iblk3 V c 0 t) (iblk3 V c 1 t) (iblk3 V c 2 t) (iblk3 V c 3 t) (iblk3 V c 4 t)
    (iblk3 V c 5 t) (iblk3 V c 6 t) := by
  unfold outsAt3; unfold out3_A_7 kernelRun3_A; dsimp only
  exact ff_read VO3_7 scM3_0.view (ms3_0 t) (hs3_0 t) (ms3_1 t) (ms3_2 t) (hs3_1 t) (hs3_2 t) (ms3_3 t) (hs3_3 t) (ms3_4 t) (hs3_4 t)
    (ms3_5 t) (hs3_5 t) (ms3_6 t) (hs3_6 t) _ _ _ _ _ _ _

theorem outsAt5_eq (t : Fin cfg5.N) : outsAt5 V c t = ffOut (iblk5 V c 0 t) (iblk5 V c 1 t) (iblk5 V c 2 t) (iblk5 V c 3 t) (iblk5 V c 4 t)
    (iblk5 V c 5 t) (iblk5 V c 6 t) := by
  unfold outsAt5; unfold out5_A_7 kernelRun5_A; dsimp only
  exact ff_read VO5_7 scM5_0.view (ms5_0 t) (hs5_0 t) (ms5_1 t) (ms5_2 t) (hs5_1 t) (hs5_2 t) (ms5_3 t) (hs5_3 t) (ms5_4 t) (hs5_4 t)
    (ms5_5 t) (hs5_5 t) (ms5_6 t) (hs5_6 t) _ _ _ _ _ _ _

theorem outsAt7_eq (t : Fin cfg7.N) : outsAt7 V c t = ffOut (iblk7 V c 0 t) (iblk7 V c 1 t) (iblk7 V c 2 t) (iblk7 V c 3 t) (iblk7 V c 4 t)
    (iblk7 V c 5 t) (iblk7 V c 6 t) := by
  unfold outsAt7; unfold out7_A_7 kernelRun7_A; dsimp only
  exact ff_read VO7_7 scM7_0.view (ms7_0 t) (hs7_0 t) (ms7_1 t) (ms7_2 t) (hs7_1 t) (hs7_2 t) (ms7_3 t) (hs7_3 t) (ms7_4 t) (hs7_4 t)
    (ms7_5 t) (hs7_5 t) (ms7_6 t) (hs7_6 t) _ _ _ _ _ _ _

theorem outsAt9_eq (t : Fin cfg9.N) : outsAt9 V c t = ffOut (iblk9 V c 0 t) (iblk9 V c 1 t) (iblk9 V c 2 t) (iblk9 V c 3 t) (iblk9 V c 4 t)
    (iblk9 V c 5 t) (iblk9 V c 6 t) := by
  unfold outsAt9; unfold out9_A_7 kernelRun9_A; dsimp only
  exact ff_read VO9_7 scM9_0.view (ms9_0 t) (hs9_0 t) (ms9_1 t) (ms9_2 t) (hs9_1 t) (hs9_2 t) (ms9_3 t) (hs9_3 t) (ms9_4 t) (hs9_4 t)
    (ms9_5 t) (hs9_5 t) (ms9_6 t) (hs9_6 t) _ _ _ _ _ _ _

theorem outsAt11_eq (t : Fin cfg11.N) : outsAt11 V c t = ffOut (iblk11 V c 0 t) (iblk11 V c 1 t) (iblk11 V c 2 t) (iblk11 V c 3 t) (iblk11 V c 4 t)
    (iblk11 V c 5 t) (iblk11 V c 6 t) := by
  unfold outsAt11; unfold out11_A_7 kernelRun11_A; dsimp only
  exact ff_read VO11_7 scM11_0.view (ms11_0 t) (hs11_0 t) (ms11_1 t) (ms11_2 t) (hs11_1 t) (hs11_2 t) (ms11_3 t) (hs11_3 t) (ms11_4 t) (hs11_4 t)
    (ms11_5 t) (hs11_5 t) (ms11_6 t) (hs11_6 t) _ _ _ _ _ _ _

theorem outsAt13_eq (t : Fin cfg13.N) : outsAt13 V c t = ffOut (iblk13 V c 0 t) (iblk13 V c 1 t) (iblk13 V c 2 t) (iblk13 V c 3 t) (iblk13 V c 4 t)
    (iblk13 V c 5 t) (iblk13 V c 6 t) := by
  unfold outsAt13; unfold out13_A_7 kernelRun13_A; dsimp only
  exact ff_read VO13_7 scM13_0.view (ms13_0 t) (hs13_0 t) (ms13_1 t) (ms13_2 t) (hs13_1 t) (hs13_2 t) (ms13_3 t) (hs13_3 t) (ms13_4 t) (hs13_4 t)
    (ms13_5 t) (hs13_5 t) (ms13_6 t) (hs13_6 t) _ _ _ _ _ _ _

theorem outsAt15_eq (t : Fin cfg15.N) : outsAt15 V c t
    = (ffOut (iblk15 V c 0 t) (iblk15 V c 1 t) (iblk15 V c 2 t) (iblk15 V c 3 t) (iblk15 V c 4 t) (iblk15 V c 5 t) (iblk15 V c 6 t),
      poolOut (ffOut (iblk15 V c 0 t) (iblk15 V c 1 t) (iblk15 V c 2 t) (iblk15 V c 3 t) (iblk15 V c 4 t) (iblk15 V c 5 t) (iblk15 V c 6 t))
        (iblk15 V c 7 t) (iblk15 V c 8 t)) := by
  unfold outsAt15; unfold out15_A_9 out15_A_10 kernelRun15_A; dsimp only
  exact pool_read VO15_9 scM15_0.view (ms15_0 t) (hs15_0 t) (ms15_1 t) (ms15_2 t) (hs15_1 t) (hs15_2 t) (ms15_3 t) (hs15_3 t) (ms15_4 t) (hs15_4 t)
    (ms15_5 t) (hs15_5 t) (ms15_6 t) (hs15_6 t) _ _ _ _ _ _ _ VO15_10 (ms15_9 t).view (ms15_7 t) (ms15_8 t) (hs15_7 t) (hs15_8 t) _ _

end

end Cert.KernelIdeal

end
-- ==== Proof.ArrayModel.lean ====
/-
  THE ARRAYS THE CALLS LEAVE, as functions of the arrays they read. Every call runs one grid point per batch row: a point reads its row of the
  hidden state and one layer of each stacked weight, and writes its row of the next hidden state (an attention call also writes its row of one layer of
  the attention array).
-/
module

public import proofs.«01_k».proof.Proof.AttnRegions
public import proofs.«01_k».proof.Proof.FfRegions
public import Idealize.ShloMosaic.Lib.Pointwise

@[expose] public section

set_option maxRecDepth 16384

noncomputable section

namespace Cert.KernelIdeal

open Idealize.ShloMosaic

variable {F : FTy → Type} [FloatOps F]

/-- Row `b` of a hidden state. -/
def rowOf (H : Vec F S8x256x1024 .f32) (b : Fin 8) : Vec F S1x256x1024 .f32 := fun y => H (ix3 b (y 1) (y 2))

/-- The hidden state with the given rows. -/
def ofRows (g : Fin 8 → Vec F S1x256x1024 .f32) : Vec F S8x256x1024 .f32 := fun i => g (i 0) (ix3 0 (i 1) (i 2))

/-- The pooled array with the given rows. -/
def ofPools (g : Fin 8 → Vec F S1x1x1024 .f32) : Vec F S8x1x1024 .f32 := fun i => g (i 0) (ix3 0 (i 1) (i 2))

/-- The attention array `A` with layer `l` replaced by the given rows. -/
def withAtt (l : ℕ) (g : Fin 8 → Vec F S1x1x16x256x256 .f32) (A : Vec F S8x8x16x256x256 .f32) : Vec F S8x8x16x256x256 .f32 :=
  fun i => if (i 0).val = l then g (i 1) (ix5 0 0 (i 2) (i 3) (i 4)) else A i

/-- Layer `l` of a stack of vectors, of biases, and of matrices. -/
def vecL (w : Vec F S8x1x1024 .f32) (l : Fin 8) : Vec F S1x1x1024 .f32 := fun y => w (ix3 l (y 1) (y 2))
def bqL (w : Vec F S8x1x3072 .f32) (l : Fin 8) : Vec F S1x1x3072 .f32 := fun y => w (ix3 l (y 1) (y 2))
def bfL (w : Vec F S8x1x4096 .f32) (l : Fin 8) : Vec F S1x1x4096 .f32 := fun y => w (ix3 l (y 1) (y 2))
def wqL (w : Vec F S8x1024x3072 .f32) (l : Fin 8) : Vec F S1x1024x3072 .f32 := fun y => w (ix3 l (y 1) (y 2))
def wpL (w : Vec F S8x1024x1024 .f32) (l : Fin 8) : Vec F S1x1024x1024 .f32 := fun y => w (ix3 l (y 1) (y 2))
def wfL (w : Vec F S8x1024x4096 .f32) (l : Fin 8) : Vec F S1x1024x4096 .f32 := fun y => w (ix3 l (y 1) (y 2))
def woL (w : Vec F S8x4096x1024 .f32) (l : Fin 8) : Vec F S1x4096x1024 .f32 := fun y => w (ix3 l (y 1) (y 2))

/-- An array made of rows, read in row `b` at the place `y`. -/
theorem ofRows_at (g : Fin 8 → Vec F S1x256x1024 .f32) (i : S8x256x1024.Idx) (b : Fin 8) (y : S1x256x1024.Idx)
    (h : (i 0).val = b.val ∧ (i 1).val = (y 1).val ∧ (i 2).val = (y 2).val) : ofRows g i = g b y := by
  unfold ofRows; rw [show i 0 = b from Fin.ext h.1]; congr 1; funext a
  match a with
  | ⟨0, _⟩ => exact Subsingleton.elim (α := Fin 1) _ _
  | ⟨1, _⟩ => exact Fin.ext h.2.1
  | ⟨2, _⟩ => exact Fin.ext h.2.2

theorem ofPools_at (g : Fin 8 → Vec F S1x1x1024 .f32) (i : S8x1x1024.Idx) (b : Fin 8) (y : S1x1x1024.Idx)
    (h : (i 0).val = b.val ∧ (i 2).val = (y 2).val) : ofPools g i = g b y := by
  unfold ofPools; rw [show i 0 = b from Fin.ext h.1]; congr 1; funext a
  match a with
  | ⟨0, _⟩ => exact Subsingleton.elim (α := Fin 1) _ _
  | ⟨1, _⟩ => exact Subsingleton.elim (α := Fin 1) _ _
  | ⟨2, _⟩ => exact Fin.ext h.2

theorem withAtt_at (l : ℕ) (g : Fin 8 → Vec F S1x1x16x256x256 .f32) (A : Vec F S8x8x16x256x256 .f32) (i : S8x8x16x256x256.Idx) (b : Fin 8)
    (y : S1x1x16x256x256.Idx) (h : (i 0).val = l ∧ (i 1).val = b.val ∧ (i 2).val = (y 2).val ∧ (i 3).val = (y 3).val ∧ (i 4).val = (y 4).val) : withAtt l g A i = g b y := by
  unfold withAtt; rw [if_pos h.1, show i 1 = b from Fin.ext h.2.1]; congr 1; funext a
  match a with
  | ⟨0, _⟩ => exact Subsingleton.elim (α := Fin 1) _ _
  | ⟨1, _⟩ => exact Subsingleton.elim (α := Fin 1) _ _
  | ⟨2, _⟩ => exact Fin.ext h.2.2.1
  | ⟨3, _⟩ => exact Fin.ext h.2.2.2.1
  | ⟨4, _⟩ => exact Fin.ext h.2.2.2.2

/-- The attention stacks: the two normalisation vectors, the qkv matrix and bias, the projection matrix and bias. -/
structure AttnW (F : FTy → Type) where
  lw : Vec F S8x1x1024 .f32
  lb : Vec F S8x1x1024 .f32
  wq : Vec F S8x1024x3072 .f32
  bq : Vec F S8x1x3072 .f32
  wp : Vec F S8x1024x1024 .f32
  bp : Vec F S8x1x1024 .f32

/-- The feed-forward stacks: the two normalisation vectors, the first matrix and bias, the second matrix and bias. -/
structure FfW (F : FTy → Type) where
  lw : Vec F S8x1x1024 .f32
  lb : Vec F S8x1x1024 .f32
  wf : Vec F S8x1024x4096 .f32
  bf : Vec F S8x1x4096 .f32
  wo : Vec F S8x4096x1024 .f32
  bo : Vec F S8x1x1024 .f32

/-- What the attention call of layer `l` writes for batch row `b` of the hidden state `H`. -/
def attnAt (w : AttnW F) (l : Fin 8) (H : Vec F S8x256x1024 .f32) (b : Fin 8) : Vec F S1x256x1024 .f32 × Vec F S1x1x16x256x256 .f32 :=
  attnOut (rowOf H b) (vecL w.lw l) (vecL w.lb l) (wqL w.wq l) (bqL w.bq l) (wpL w.wp l) (vecL w.bp l)

/-- The same of the first layer, which adds the embedding `e` to the row. -/
def attnAt0 (w : AttnW F) (e : Vec F S256x1024 .f32) (H : Vec F S8x256x1024 .f32) (b : Fin 8) :
    Vec F S1x256x1024 .f32 × Vec F S1x1x16x256x256 .f32 :=
  attnOut0 (rowOf H b) e (vecL w.lw 0) (vecL w.lb 0) (wqL w.wq 0) (bqL w.bq 0) (wpL w.wp 0) (vecL w.bp 0)

/-- What the feed-forward call of layer `l` writes for batch row `b`. -/
def ffAt (w : FfW F) (l : Fin 8) (H : Vec F S8x256x1024 .f32) (b : Fin 8) : Vec F S1x256x1024 .f32 :=
  ffOut (rowOf H b) (vecL w.lw l) (vecL w.lb l) (wfL w.wf l) (bfL w.bf l) (woL w.wo l) (vecL w.bo l)

/-- The hidden state before layer `l + 1`: the argument `X`, then layer by layer an attention call and a feed-forward call. -/
def hidK (aw : AttnW F) (fw : FfW F) (e : Vec F S256x1024 .f32) (X : Vec F S8x256x1024 .f32) : ℕ → Vec F S8x256x1024 .f32
  | 0 => X
  | 1 => ofRows (ffAt fw 0 (ofRows fun b => (attnAt0 aw e X b).1))
  | l + 2 => ofRows (ffAt fw (Fin.ofNat 8 (l + 1)) (ofRows fun b => (attnAt aw (Fin.ofNat 8 (l + 1)) (hidK aw fw e X (l + 1)) b).1))

/-- What the attention call of layer `l` writes for a batch row, of the hidden state before it. -/
def outK (aw : AttnW F) (fw : FfW F) (e : Vec F S256x1024 .f32) (X : Vec F S8x256x1024 .f32) (l : ℕ) (b : Fin 8) :
    Vec F S1x256x1024 .f32 × Vec F S1x1x16x256x256 .f32 :=
  match l with
  | 0 => attnAt0 aw e X b
  | l + 1 => attnAt aw (Fin.ofNat 8 (l + 1)) (hidK aw fw e X (l + 1)) b

/-- The hidden state between the two calls of layer `l`. -/
def midK (aw : AttnW F) (fw : FfW F) (e : Vec F S256x1024 .f32) (X : Vec F S8x256x1024 .f32) (l : ℕ) : Vec F S8x256x1024 .f32 :=
  ofRows fun b => (outK aw fw e X l b).1

theorem hidK_succ (aw : AttnW F) (fw : FfW F) (e : Vec F S256x1024 .f32) (X : Vec F S8x256x1024 .f32) (l : ℕ) :
    hidK aw fw e X (l + 1) = ofRows (ffAt fw (Fin.ofNat 8 l) (midK aw fw e X l)) := by
  cases l <;> rfl

/-- The attention array after the attention call of layer `l`, over what its buffer held. -/
def attK (aw : AttnW F) (fw : FfW F) (e : Vec F S256x1024 .f32) (X : Vec F S8x256x1024 .f32) (A : Vec F S8x8x16x256x256 .f32) :
    ℕ → Vec F S8x8x16x256x256 .f32
  | 0 => withAtt 0 (fun b => (outK aw fw e X 0 b).2) A
  | l + 1 => withAtt (l + 1) (fun b => (outK aw fw e X (l + 1) b).2) (attK aw fw e X A l)

/-- A layer no later than `l` holds what its own call wrote. -/
theorem attK_at (aw : AttnW F) (fw : FfW F) (e : Vec F S256x1024 .f32) (X : Vec F S8x256x1024 .f32) (A : Vec F S8x8x16x256x256 .f32)
    (i : S8x8x16x256x256.Idx) : ∀ l : ℕ, (i 0).val ≤ l →
      attK aw fw e X A l i = (outK aw fw e X (i 0).val (i 1)).2 (ix5 0 0 (i 2) (i 3) (i 4))
  | 0, h => by
    have h0 : (i 0).val = 0 := by omega
    rw [attK, withAtt, if_pos h0, h0]
  | l + 1, h => by
    rw [attK, withAtt]
    split
    · rename_i h0; rw [h0]
    · exact attK_at aw fw e X A i l (by omega)

end Cert.KernelIdeal

end
-- ==== Proof.AttnArrays.lean ====
/-
  THE ARRAYS AFTER EACH ATTENTION CALL, from the arrays before it: the hidden state made of the rows its points write, and the attention array with this
  layer's part replaced.
-/
module

public import proofs.«01_k».proof.Proof.ArrayModel
public import Idealize.ShloMosaic.Lib.Pipeline.ValueKit

@[expose] public section

set_option maxRecDepth 16384

noncomputable section

namespace Cert.KernelIdeal

open Idealize.ShloMosaic Idealize.ShloMosaic.TcCoe Idealize.ShloMosaic.Tactic Idealize.SL Idealize.SL.RA Idealize.SL.Sem
open Idealize.ShloMosaic.Pipeline
open Gen

variable {F : FTy → Type} [FloatOps F]

/-- The array after a pipeline is `G` when every written block is `G`'s and `G` is the entry array wherever nothing is written. -/
theorem arrAt_eq_of_rest {cfg : Cfg sig Λ₀} {c : Dev nD} (dat : Dat τ (Elt F) Unit ℕ (UR sig nD τ) ℕ cfg c) (w : Fin cfg.W)
    (G : Buf (Elt F) ((cfg.win w).arr.view.loc (c.tc : Thread nD τ)))
    (hG : ∀ t, (cfg.win w).flush t = true → ∀ y : ((cfg.win w).xblock (cfg.grid.coords t)).Idx,
      _root_.cast (congrArg (Elt F) ((cfg.win w).blk t).view.elt_eq.symm) (dat.after w t ((cfg.win w).xinj (cfg.grid.coords t) y))
        = G (((cfg.win w).blk t).view.emb y))
    (hrest : ∀ i : ((cfg.win w).arr.view.loc (c.tc : Thread nD τ)).2.ty.Idx,
      (¬ ∃ t : Fin cfg.N, (cfg.win w).flush t = true ∧ i ∈ ((cfg.win w).blk t).view.set) → G i = dat.A w i) :
    dat.arrAt w cfg.N = G := by
  funext i
  rw [dat.arrAt_eq_piecewise w G]
  · split
    · rfl
    · exact (hrest i ‹_›).symm
  · intro t hf
    funext y
    rw [View.read_apply, ← hG t hf y, cast_cast, cast_eq]

theorem withAtt_ne (l : ℕ) (g : Fin 8 → Vec F S1x1x16x256x256 .f32) (A : Vec F S8x8x16x256x256 .f32) (i : S8x8x16x256x256.Idx)
    (h : (i 0).val ≠ l) : withAtt l g A i = A i := by
  unfold withAtt; rw [if_neg h]

/-- The attention stacks in the buffers. -/
def attnW (c : Dev nD) (v : (b : Ref sig .tc) → Buf (Elt F) ((c : Thread nD τ).loc b)) : AttnW F :=
  ⟨v main_v3, v main_v4, v main_arg7, v main_v5, v main_arg9, v main_v6⟩

variable (V : (c : Dev nD) → (b : Ref sig .tc) → Buf (Elt F) ((c : Thread nD τ).loc b)) (c : Dev nD)

/-! ### Layer 1 -/

theorem idx0 : ∀ t : Fin cfg0.N, win0_0.index t = ![t.val, 0, 0] ∧ win0_8.index t = ![t.val, 0, 0] ∧ win0_9.index t = ![0, t.val, 0, 0, 0] ∧ win0_1.index t = ![0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, _)

theorem outs0 (t : Fin cfg0.N) : outsAt0 V c t = attnAt0 (attnW c (V c)) (V c main_arg4) (V c main_v2) (t.cast N_0) := by
  obtain ⟨e0, er, ea, ee, e2, e3, e4, e5, e6, e7⟩ := idx0 t
  rw [outsAt0_eq]
  unfold attnAt0 attnW
  congr 1
  · blk_ext! [iblk0, rowOf, e0]
  · blk_ext! [iblk0, ee]
  · blk_ext! [iblk0, vecL, e2]
  · blk_ext! [iblk0, vecL, e3]
  · blk_ext! [iblk0, wqL, e4]
  · blk_ext! [iblk0, bqL, e5]
  · blk_ext! [iblk0, wpL, e6]
  · blk_ext! [iblk0, vecL, e7]

theorem rows0 : (dat0 V c).arrAt 8 cfg0.N = ofRows fun b => (attnAt0 (attnW c (V c)) (V c main_arg4) (V c main_v2) b).1 := by
  refine (dat0 V c).arrAt_eq_of_covers 8 _ (by decide +kernel) fun t hf y => ?_
  obtain ⟨-, er, -⟩ := idx0 t
  blk_simp
  rw [after0_8, outs0]
  exact (ofRows_at (F := F) (fun b => (attnAt0 (attnW c (V c)) (V c main_arg4) (V c main_v2) b).1) _ (t.cast N_0) y
    ⟨by blk_simp [er]; first | done | rfl, by blk_simp [er]; first | done | rfl, by blk_simp [er]; first | done | rfl⟩).symm

theorem atts0 : (dat0 V c).arrAt 9 cfg0.N = withAtt 0 (fun b => (attnAt0 (attnW c (V c)) (V c main_arg4) (V c main_v2) b).2) (V c main_v13_1) := by
  refine arrAt_eq_of_rest (dat0 V c) 9 (withAtt 0 (fun b => (attnAt0 (attnW c (V c)) (V c main_arg4) (V c main_v2) b).2) (V c main_v13_1)) (fun t hf y => ?_) fun i hn => ?_
  · obtain ⟨-, -, ea, -⟩ := idx0 t
    blk_simp
    rw [after0_9, outs0]
    exact (withAtt_at (F := F) _ (fun b => (attnAt0 (attnW c (V c)) (V c main_arg4) (V c main_v2) b).2) _ _ (t.cast N_0) y ⟨by blk_simp [ea], by blk_simp [ea]; first | done | rfl,
      by blk_simp [ea]; first | done | rfl, by blk_simp [ea]; first | done | rfl, by blk_simp [ea]; first | done | rfl⟩).symm
  · rw [A_eq0]
    refine withAtt_ne _ _ _ _ fun h0 => hn ⟨(i 1).cast N_0.symm, flush0_9 _, ?_⟩
    obtain ⟨-, -, ea, -⟩ := idx0 ((i 1).cast N_0.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 2 -/

theorem idx2 : ∀ t : Fin cfg2.N, win2_0.index t = ![t.val, 0, 0] ∧ win2_7.index t = ![t.val, 0, 0] ∧ win2_8.index t = ![1, t.val, 0, 0, 0] ∧ win2_1.index t = ![1, 0, 0] ∧ win2_2.index t = ![1, 0, 0] ∧ win2_3.index t = ![1, 0, 0] ∧ win2_4.index t = ![1, 0, 0] ∧ win2_5.index t = ![1, 0, 0] ∧ win2_6.index t = ![1, 0, 0] :=
  (by decide +kernel : ∀ t : Fin grid2.N, _)

theorem outs2 (t : Fin cfg2.N) : outsAt2 V c t = attnAt (attnW c (V c)) 1 (V c main_v14) (t.cast N_2) := by
  obtain ⟨e0, er, ea, e1, e2, e3, e4, e5, e6⟩ := idx2 t
  rw [outsAt2_eq]
  unfold attnAt attnW
  congr 1
  · blk_ext! [iblk2, rowOf, e0]
  · blk_ext! [iblk2, vecL, e1]
  · blk_ext! [iblk2, vecL, e2]
  · blk_ext! [iblk2, wqL, e3]
  · blk_ext! [iblk2, bqL, e4]
  · blk_ext! [iblk2, wpL, e5]
  · blk_ext! [iblk2, vecL, e6]

theorem rows2 : (dat2 V c).arrAt 7 cfg2.N = ofRows fun b => (attnAt (attnW c (V c)) 1 (V c main_v14) b).1 := by
  refine (dat2 V c).arrAt_eq_of_covers 7 _ (by decide +kernel) fun t hf y => ?_
  obtain ⟨-, er, -⟩ := idx2 t
  blk_simp
  rw [after2_7, outs2]
  exact (ofRows_at (F := F) (fun b => (attnAt (attnW c (V c)) 1 (V c main_v14) b).1) _ (t.cast N_2) y
    ⟨by blk_simp [er]; first | done | rfl, by blk_simp [er]; first | done | rfl, by blk_simp [er]; first | done | rfl⟩).symm

theorem atts2 : (dat2 V c).arrAt 8 cfg2.N = withAtt 1 (fun b => (attnAt (attnW c (V c)) 1 (V c main_v14) b).2) (V c main_v15_1) := by
  refine arrAt_eq_of_rest (dat2 V c) 8 (withAtt 1 (fun b => (attnAt (attnW c (V c)) 1 (V c main_v14) b).2) (V c main_v15_1)) (fun t hf y => ?_) fun i hn => ?_
  · obtain ⟨-, -, ea, -⟩ := idx2 t
    blk_simp
    rw [after2_8, outs2]
    exact (withAtt_at (F := F) _ (fun b => (attnAt (attnW c (V c)) 1 (V c main_v14) b).2) _ _ (t.cast N_2) y ⟨by blk_simp [ea], by blk_simp [ea]; first | done | rfl,
      by blk_simp [ea]; first | done | rfl, by blk_simp [ea]; first | done | rfl, by blk_simp [ea]; first | done | rfl⟩).symm
  · rw [A_eq2]
    refine withAtt_ne _ _ _ _ fun h0 => hn ⟨(i 1).cast N_2.symm, flush2_8 _, ?_⟩
    obtain ⟨-, -, ea, -⟩ := idx2 ((i 1).cast N_2.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 3 -/

theorem idx4 : ∀ t : Fin cfg4.N, win4_0.index t = ![t.val, 0, 0] ∧ win4_7.index t = ![t.val, 0, 0] ∧ win4_8.index t = ![2, t.val, 0, 0, 0] ∧ win4_1.index t = ![2, 0, 0] ∧ win4_2.index t = ![2, 0, 0] ∧ win4_3.index t = ![2, 0, 0] ∧ win4_4.index t = ![2, 0, 0] ∧ win4_5.index t = ![2, 0, 0] ∧ win4_6.index t = ![2, 0, 0] :=
  (by decide +kernel : ∀ t : Fin grid4.N, _)

theorem outs4 (t : Fin cfg4.N) : outsAt4 V c t = attnAt (attnW c (V c)) 2 (V c main_v16) (t.cast N_4) := by
  obtain ⟨e0, er, ea, e1, e2, e3, e4, e5, e6⟩ := idx4 t
  rw [outsAt4_eq]
  unfold attnAt attnW
  congr 1
  · blk_ext! [iblk4, rowOf, e0]
  · blk_ext! [iblk4, vecL, e1]
  · blk_ext! [iblk4, vecL, e2]
  · blk_ext! [iblk4, wqL, e3]
  · blk_ext! [iblk4, bqL, e4]
  · blk_ext! [iblk4, wpL, e5]
  · blk_ext! [iblk4, vecL, e6]

theorem rows4 : (dat4 V c).arrAt 7 cfg4.N = ofRows fun b => (attnAt (attnW c (V c)) 2 (V c main_v16) b).1 := by
  refine (dat4 V c).arrAt_eq_of_covers 7 _ (by decide +kernel) fun t hf y => ?_
  obtain ⟨-, er, -⟩ := idx4 t
  blk_simp
  rw [after4_7, outs4]
  exact (ofRows_at (F := F) (fun b => (attnAt (attnW c (V c)) 2 (V c main_v16) b).1) _ (t.cast N_4) y
    ⟨by blk_simp [er]; first | done | rfl, by blk_simp [er]; first | done | rfl, by blk_simp [er]; first | done | rfl⟩).symm

theorem atts4 : (dat4 V c).arrAt 8 cfg4.N = withAtt 2 (fun b => (attnAt (attnW c (V c)) 2 (V c main_v16) b).2) (V c main_v17_1) := by
  refine arrAt_eq_of_rest (dat4 V c) 8 (withAtt 2 (fun b => (attnAt (attnW c (V c)) 2 (V c main_v16) b).2) (V c main_v17_1)) (fun t hf y => ?_) fun i hn => ?_
  · obtain ⟨-, -, ea, -⟩ := idx4 t
    blk_simp
    rw [after4_8, outs4]
    exact (withAtt_at (F := F) _ (fun b => (attnAt (attnW c (V c)) 2 (V c main_v16) b).2) _ _ (t.cast N_4) y ⟨by blk_simp [ea], by blk_simp [ea]; first | done | rfl,
      by blk_simp [ea]; first | done | rfl, by blk_simp [ea]; first | done | rfl, by blk_simp [ea]; first | done | rfl⟩).symm
  · rw [A_eq4]
    refine withAtt_ne _ _ _ _ fun h0 => hn ⟨(i 1).cast N_4.symm, flush4_8 _, ?_⟩
    obtain ⟨-, -, ea, -⟩ := idx4 ((i 1).cast N_4.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 4 -/

theorem idx6 : ∀ t : Fin cfg6.N, win6_0.index t = ![t.val, 0, 0] ∧ win6_7.index t = ![t.val, 0, 0] ∧ win6_8.index t = ![3, t.val, 0, 0, 0] ∧ win6_1.index t = ![3, 0, 0] ∧ win6_2.index t = ![3, 0, 0] ∧ win6_3.index t = ![3, 0, 0] ∧ win6_4.index t = ![3, 0, 0] ∧ win6_5.index t = ![3, 0, 0] ∧ win6_6.index t = ![3, 0, 0] :=
  (by decide +kernel : ∀ t : Fin grid6.N, _)

theorem outs6 (t : Fin cfg6.N) : outsAt6 V c t = attnAt (attnW c (V c)) 3 (V c main_v18) (t.cast N_6) := by
  obtain ⟨e0, er, ea, e1, e2, e3, e4, e5, e6⟩ := idx6 t
  rw [outsAt6_eq]
  unfold attnAt attnW
  congr 1
  · blk_ext! [iblk6, rowOf, e0]
  · blk_ext! [iblk6, vecL, e1]
  · blk_ext! [iblk6, vecL, e2]
  · blk_ext! [iblk6, wqL, e3]
  · blk_ext! [iblk6, bqL, e4]
  · blk_ext! [iblk6, wpL, e5]
  · blk_ext! [iblk6, vecL, e6]

theorem rows6 : (dat6 V c).arrAt 7 cfg6.N = ofRows fun b => (attnAt (attnW c (V c)) 3 (V c main_v18) b).1 := by
  refine (dat6 V c).arrAt_eq_of_covers 7 _ (by decide +kernel) fun t hf y => ?_
  obtain ⟨-, er, -⟩ := idx6 t
  blk_simp
  rw [after6_7, outs6]
  exact (ofRows_at (F := F) (fun b => (attnAt (attnW c (V c)) 3 (V c main_v18) b).1) _ (t.cast N_6) y
    ⟨by blk_simp [er]; first | done | rfl, by blk_simp [er]; first | done | rfl, by blk_simp [er]; first | done | rfl⟩).symm

theorem atts6 : (dat6 V c).arrAt 8 cfg6.N = withAtt 3 (fun b => (attnAt (attnW c (V c)) 3 (V c main_v18) b).2) (V c main_v19_1) := by
  refine arrAt_eq_of_rest (dat6 V c) 8 (withAtt 3 (fun b => (attnAt (attnW c (V c)) 3 (V c main_v18) b).2) (V c main_v19_1)) (fun t hf y => ?_) fun i hn => ?_
  · obtain ⟨-, -, ea, -⟩ := idx6 t
    blk_simp
    rw [after6_8, outs6]
    exact (withAtt_at (F := F) _ (fun b => (attnAt (attnW c (V c)) 3 (V c main_v18) b).2) _ _ (t.cast N_6) y ⟨by blk_simp [ea], by blk_simp [ea]; first | done | rfl,
      by blk_simp [ea]; first | done | rfl, by blk_simp [ea]; first | done | rfl, by blk_simp [ea]; first | done | rfl⟩).symm
  · rw [A_eq6]
    refine withAtt_ne _ _ _ _ fun h0 => hn ⟨(i 1).cast N_6.symm, flush6_8 _, ?_⟩
    obtain ⟨-, -, ea, -⟩ := idx6 ((i 1).cast N_6.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 5 -/

theorem idx8 : ∀ t : Fin cfg8.N, win8_0.index t = ![t.val, 0, 0] ∧ win8_7.index t = ![t.val, 0, 0] ∧ win8_8.index t = ![4, t.val, 0, 0, 0] ∧ win8_1.index t = ![4, 0, 0] ∧ win8_2.index t = ![4, 0, 0] ∧ win8_3.index t = ![4, 0, 0] ∧ win8_4.index t = ![4, 0, 0] ∧ win8_5.index t = ![4, 0, 0] ∧ win8_6.index t = ![4, 0, 0] :=
  (by decide +kernel : ∀ t : Fin grid8.N, _)

theorem outs8 (t : Fin cfg8.N) : outsAt8 V c t = attnAt (attnW c (V c)) 4 (V c main_v20) (t.cast N_8) := by
  obtain ⟨e0, er, ea, e1, e2, e3, e4, e5, e6⟩ := idx8 t
  rw [outsAt8_eq]
  unfold attnAt attnW
  congr 1
  · blk_ext! [iblk8, rowOf, e0]
  · blk_ext! [iblk8, vecL, e1]
  · blk_ext! [iblk8, vecL, e2]
  · blk_ext! [iblk8, wqL, e3]
  · blk_ext! [iblk8, bqL, e4]
  · blk_ext! [iblk8, wpL, e5]
  · blk_ext! [iblk8, vecL, e6]

theorem rows8 : (dat8 V c).arrAt 7 cfg8.N = ofRows fun b => (attnAt (attnW c (V c)) 4 (V c main_v20) b).1 := by
  refine (dat8 V c).arrAt_eq_of_covers 7 _ (by decide +kernel) fun t hf y => ?_
  obtain ⟨-, er, -⟩ := idx8 t
  blk_simp
  rw [after8_7, outs8]
  exact (ofRows_at (F := F) (fun b => (attnAt (attnW c (V c)) 4 (V c main_v20) b).1) _ (t.cast N_8) y
    ⟨by blk_simp [er]; first | done | rfl, by blk_simp [er]; first | done | rfl, by blk_simp [er]; first | done | rfl⟩).symm

theorem atts8 : (dat8 V c).arrAt 8 cfg8.N = withAtt 4 (fun b => (attnAt (attnW c (V c)) 4 (V c main_v20) b).2) (V c main_v21_1) := by
  refine arrAt_eq_of_rest (dat8 V c) 8 (withAtt 4 (fun b => (attnAt (attnW c (V c)) 4 (V c main_v20) b).2) (V c main_v21_1)) (fun t hf y => ?_) fun i hn => ?_
  · obtain ⟨-, -, ea, -⟩ := idx8 t
    blk_simp
    rw [after8_8, outs8]
    exact (withAtt_at (F := F) _ (fun b => (attnAt (attnW c (V c)) 4 (V c main_v20) b).2) _ _ (t.cast N_8) y ⟨by blk_simp [ea], by blk_simp [ea]; first | done | rfl,
      by blk_simp [ea]; first | done | rfl, by blk_simp [ea]; first | done | rfl, by blk_simp [ea]; first | done | rfl⟩).symm
  · rw [A_eq8]
    refine withAtt_ne _ _ _ _ fun h0 => hn ⟨(i 1).cast N_8.symm, flush8_8 _, ?_⟩
    obtain ⟨-, -, ea, -⟩ := idx8 ((i 1).cast N_8.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 6 -/

theorem idx10 : ∀ t : Fin cfg10.N, win10_0.index t = ![t.val, 0, 0] ∧ win10_7.index t = ![t.val, 0, 0] ∧ win10_8.index t = ![5, t.val, 0, 0, 0] ∧ win10_1.index t = ![5, 0, 0] ∧ win10_2.index t = ![5, 0, 0] ∧ win10_3.index t = ![5, 0, 0] ∧ win10_4.index t = ![5, 0, 0] ∧ win10_5.index t = ![5, 0, 0] ∧ win10_6.index t = ![5, 0, 0] :=
  (by decide +kernel : ∀ t : Fin grid10.N, _)

theorem outs10 (t : Fin cfg10.N) : outsAt10 V c t = attnAt (attnW c (V c)) 5 (V c main_v22) (t.cast N_10) := by
  obtain ⟨e0, er, ea, e1, e2, e3, e4, e5, e6⟩ := idx10 t
  rw [outsAt10_eq]
  unfold attnAt attnW
  congr 1
  · blk_ext! [iblk10, rowOf, e0]
  · blk_ext! [iblk10, vecL, e1]
  · blk_ext! [iblk10, vecL, e2]
  · blk_ext! [iblk10, wqL, e3]
  · blk_ext! [iblk10, bqL, e4]
  · blk_ext! [iblk10, wpL, e5]
  · blk_ext! [iblk10, vecL, e6]

theorem rows10 : (dat10 V c).arrAt 7 cfg10.N = ofRows fun b => (attnAt (attnW c (V c)) 5 (V c main_v22) b).1 := by
  refine (dat10 V c).arrAt_eq_of_covers 7 _ (by decide +kernel) fun t hf y => ?_
  obtain ⟨-, er, -⟩ := idx10 t
  blk_simp
  rw [after10_7, outs10]
  exact (ofRows_at (F := F) (fun b => (attnAt (attnW c (V c)) 5 (V c main_v22) b).1) _ (t.cast N_10) y
    ⟨by blk_simp [er]; first | done | rfl, by blk_simp [er]; first | done | rfl, by blk_simp [er]; first | done | rfl⟩).symm

theorem atts10 : (dat10 V c).arrAt 8 cfg10.N = withAtt 5 (fun b => (attnAt (attnW c (V c)) 5 (V c main_v22) b).2) (V c main_v23_1) := by
  refine arrAt_eq_of_rest (dat10 V c) 8 (withAtt 5 (fun b => (attnAt (attnW c (V c)) 5 (V c main_v22) b).2) (V c main_v23_1)) (fun t hf y => ?_) fun i hn => ?_
  · obtain ⟨-, -, ea, -⟩ := idx10 t
    blk_simp
    rw [after10_8, outs10]
    exact (withAtt_at (F := F) _ (fun b => (attnAt (attnW c (V c)) 5 (V c main_v22) b).2) _ _ (t.cast N_10) y ⟨by blk_simp [ea], by blk_simp [ea]; first | done | rfl,
      by blk_simp [ea]; first | done | rfl, by blk_simp [ea]; first | done | rfl, by blk_simp [ea]; first | done | rfl⟩).symm
  · rw [A_eq10]
    refine withAtt_ne _ _ _ _ fun h0 => hn ⟨(i 1).cast N_10.symm, flush10_8 _, ?_⟩
    obtain ⟨-, -, ea, -⟩ := idx10 ((i 1).cast N_10.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 7 -/

theorem idx12 : ∀ t : Fin cfg12.N, win12_0.index t = ![t.val, 0, 0] ∧ win12_7.index t = ![t.val, 0, 0] ∧ win12_8.index t = ![6, t.val, 0, 0, 0] ∧ win12_1.index t = ![6, 0, 0] ∧ win12_2.index t = ![6, 0, 0] ∧ win12_3.index t = ![6, 0, 0] ∧ win12_4.index t = ![6, 0, 0] ∧ win12_5.index t = ![6, 0, 0] ∧ win12_6.index t = ![6, 0, 0] :=
  (by decide +kernel : ∀ t : Fin grid12.N, _)

theorem outs12 (t : Fin cfg12.N) : outsAt12 V c t = attnAt (attnW c (V c)) 6 (V c main_v24) (t.cast N_12) := by
  obtain ⟨e0, er, ea, e1, e2, e3, e4, e5, e6⟩ := idx12 t
  rw [outsAt12_eq]
  unfold attnAt attnW
  congr 1
  · blk_ext! [iblk12, rowOf, e0]
  · blk_ext! [iblk12, vecL, e1]
  · blk_ext! [iblk12, vecL, e2]
  · blk_ext! [iblk12, wqL, e3]
  · blk_ext! [iblk12, bqL, e4]
  · blk_ext! [iblk12, wpL, e5]
  · blk_ext! [iblk12, vecL, e6]

theorem rows12 : (dat12 V c).arrAt 7 cfg12.N = ofRows fun b => (attnAt (attnW c (V c)) 6 (V c main_v24) b).1 := by
  refine (dat12 V c).arrAt_eq_of_covers 7 _ (by decide +kernel) fun t hf y => ?_
  obtain ⟨-, er, -⟩ := idx12 t
  blk_simp
  rw [after12_7, outs12]
  exact (ofRows_at (F := F) (fun b => (attnAt (attnW c (V c)) 6 (V c main_v24) b).1) _ (t.cast N_12) y
    ⟨by blk_simp [er]; first | done | rfl, by blk_simp [er]; first | done | rfl, by blk_simp [er]; first | done | rfl⟩).symm

theorem atts12 : (dat12 V c).arrAt 8 cfg12.N = withAtt 6 (fun b => (attnAt (attnW c (V c)) 6 (V c main_v24) b).2) (V c main_v25_1) := by
  refine arrAt_eq_of_rest (dat12 V c) 8 (withAtt 6 (fun b => (attnAt (attnW c (V c)) 6 (V c main_v24) b).2) (V c main_v25_1)) (fun t hf y => ?_) fun i hn => ?_
  · obtain ⟨-, -, ea, -⟩ := idx12 t
    blk_simp
    rw [after12_8, outs12]
    exact (withAtt_at (F := F) _ (fun b => (attnAt (attnW c (V c)) 6 (V c main_v24) b).2) _ _ (t.cast N_12) y ⟨by blk_simp [ea], by blk_simp [ea]; first | done | rfl,
      by blk_simp [ea]; first | done | rfl, by blk_simp [ea]; first | done | rfl, by blk_simp [ea]; first | done | rfl⟩).symm
  · rw [A_eq12]
    refine withAtt_ne _ _ _ _ fun h0 => hn ⟨(i 1).cast N_12.symm, flush12_8 _, ?_⟩
    obtain ⟨-, -, ea, -⟩ := idx12 ((i 1).cast N_12.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

/-! ### Layer 8 -/

theorem idx14 : ∀ t : Fin cfg14.N, win14_0.index t = ![t.val, 0, 0] ∧ win14_7.index t = ![t.val, 0, 0] ∧ win14_8.index t = ![7, t.val, 0, 0, 0] ∧ win14_1.index t = ![7, 0, 0] ∧ win14_2.index t = ![7, 0, 0] ∧ win14_3.index t = ![7, 0, 0] ∧ win14_4.index t = ![7, 0, 0] ∧ win14_5.index t = ![7, 0, 0] ∧ win14_6.index t = ![7, 0, 0] :=
  (by decide +kernel : ∀ t : Fin grid14.N, _)

theorem outs14 (t : Fin cfg14.N) : outsAt14 V c t = attnAt (attnW c (V c)) 7 (V c main_v26) (t.cast N_14) := by
  obtain ⟨e0, er, ea, e1, e2, e3, e4, e5, e6⟩ := idx14 t
  rw [outsAt14_eq]
  unfold attnAt attnW
  congr 1
  · blk_ext! [iblk14, rowOf, e0]
  · blk_ext! [iblk14, vecL, e1]
  · blk_ext! [iblk14, vecL, e2]
  · blk_ext! [iblk14, wqL, e3]
  · blk_ext! [iblk14, bqL, e4]
  · blk_ext! [iblk14, wpL, e5]
  · blk_ext! [iblk14, vecL, e6]

theorem rows14 : (dat14 V c).arrAt 7 cfg14.N = ofRows fun b => (attnAt (attnW c (V c)) 7 (V c main_v26) b).1 := by
  refine (dat14 V c).arrAt_eq_of_covers 7 _ (by decide +kernel) fun t hf y => ?_
  obtain ⟨-, er, -⟩ := idx14 t
  blk_simp
  rw [after14_7, outs14]
  exact (ofRows_at (F := F) (fun b => (attnAt (attnW c (V c)) 7 (V c main_v26) b).1) _ (t.cast N_14) y
    ⟨by blk_simp [er]; first | done | rfl, by blk_simp [er]; first | done | rfl, by blk_simp [er]; first | done | rfl⟩).symm

theorem atts14 : (dat14 V c).arrAt 8 cfg14.N = withAtt 7 (fun b => (attnAt (attnW c (V c)) 7 (V c main_v26) b).2) (V c main_v27_1) := by
  refine arrAt_eq_of_rest (dat14 V c) 8 (withAtt 7 (fun b => (attnAt (attnW c (V c)) 7 (V c main_v26) b).2) (V c main_v27_1)) (fun t hf y => ?_) fun i hn => ?_
  · obtain ⟨-, -, ea, -⟩ := idx14 t
    blk_simp
    rw [after14_8, outs14]
    exact (withAtt_at (F := F) _ (fun b => (attnAt (attnW c (V c)) 7 (V c main_v26) b).2) _ _ (t.cast N_14) y ⟨by blk_simp [ea], by blk_simp [ea]; first | done | rfl,
      by blk_simp [ea]; first | done | rfl, by blk_simp [ea]; first | done | rfl, by blk_simp [ea]; first | done | rfl⟩).symm
  · rw [A_eq14]
    refine withAtt_ne _ _ _ _ fun h0 => hn ⟨(i 1).cast N_14.symm, flush14_8 _, ?_⟩
    obtain ⟨-, -, ea, -⟩ := idx14 ((i 1).cast N_14.symm)
    mem_blk [ea]
    idx_bounds
    exact ⟨⟨by omega, by omega⟩, ⟨le_refl _, Nat.lt_succ_self _⟩, ⟨Nat.zero_le _, hb2⟩, ⟨Nat.zero_le _, hb3⟩, Nat.zero_le _, hb4⟩

end Cert.KernelIdeal

end
-- ==== Proof.FfArrays.lean ====
/-
  THE ARRAYS AFTER EACH FEED-FORWARD CALL, from the arrays before it: the hidden state made of the rows its points write; the last call also leaves the
  pooled array.
-/
module

public import proofs.«01_k».proof.Proof.ArrayModel
public import Idealize.ShloMosaic.Lib.Pipeline.ValueKit

@[expose] public section

set_option maxRecDepth 16384

noncomputable section

namespace Cert.KernelIdeal

open Idealize.ShloMosaic Idealize.ShloMosaic.TcCoe Idealize.ShloMosaic.Tactic Idealize.SL Idealize.SL.RA Idealize.SL.Sem
open Idealize.ShloMosaic.Pipeline
open Gen

variable {F : FTy → Type} [FloatOps F]

/-- The feed-forward stacks in the buffers. -/
def ffW (c : Dev nD) (v : (b : Ref sig .tc) → Buf (Elt F) ((c : Thread nD τ).loc b)) : FfW F :=
  ⟨v main_v7, v main_v8, v main_arg13, v main_v9, v main_arg15, v main_v10⟩

variable (V : (c : Dev nD) → (b : Ref sig .tc) → Buf (Elt F) ((c : Thread nD τ).loc b)) (c : Dev nD)

/-! ### Layer 1 -/

theorem idx1 : ∀ t : Fin cfg1.N, win1_0.index t = ![t.val, 0, 0] ∧ win1_7.index t = ![t.val, 0, 0] ∧ win1_1.index t = ![0, 0, 0] ∧ win1_2.index t = ![0, 0, 0] ∧ win1_3.index t = ![0, 0, 0] ∧ win1_4.index t = ![0, 0, 0] ∧ win1_5.index t = ![0, 0, 0] ∧ win1_6.index t = ![0, 0, 0] :=
  (by decide +kernel : ∀ t : Fin grid1.N, _)

theorem outs1 (t : Fin cfg1.N) : outsAt1 V c t = ffAt (ffW c (V c)) 0 (V c main_v13_0) (t.cast N_1) := by
  obtain ⟨e0, er, e1, e2, e3, e4, e5, e6⟩ := idx1 t
  rw [outsAt1_eq]
  unfold ffAt ffW
  congr 1
  · blk_ext! [iblk1, rowOf, e0]
  · blk_ext! [iblk1, vecL, e1]
  · blk_ext! [iblk1, vecL, e2]
  · blk_ext! [iblk1, wfL, e3]
  · blk_ext! [iblk1, bfL, e4]
  · blk_ext! [iblk1, woL, e5]
  · blk_ext! [iblk1, vecL, e6]

theorem rows1 : (dat1 V c).arrAt 7 cfg1.N = ofRows (ffAt (ffW c (V c)) 0 (V c main_v13_0)) := by
  refine (dat1 V c).arrAt_eq_of_covers 7 _ (by decide +kernel) fun t hf y => ?_
  obtain ⟨-, er, -⟩ := idx1 t
  blk_simp
  rw [after1_7, outs1]
  exact (ofRows_at (F := F) (ffAt (ffW c (V c)) 0 (V c main_v13_0)) _ (t.cast N_1) y
    ⟨by blk_simp [er]; first | done | rfl, by blk_simp [er]; first | done | rfl, by blk_simp [er]; first | done | rfl⟩).symm

/-! ### Layer 2 -/

theorem idx3 : ∀ t : Fin cfg3.N, win3_0.index t = ![t.val, 0, 0] ∧ win3_7.index t = ![t.val, 0, 0] ∧ win3_1.index t = ![1, 0, 0] ∧ win3_2.index t = ![1, 0, 0] ∧ win3_3.index t = ![1, 0, 0] ∧ win3_4.index t = ![1, 0, 0] ∧ win3_5.index t = ![1, 0, 0] ∧ win3_6.index t = ![1, 0, 0] :=
  (by decide +kernel : ∀ t : Fin grid3.N, _)

theorem outs3 (t : Fin cfg3.N) : outsAt3 V c t = ffAt (ffW c (V c)) 1 (V c main_v15_0) (t.cast N_3) := by
  obtain ⟨e0, er, e1, e2, e3, e4, e5, e6⟩ := idx3 t
  rw [outsAt3_eq]
  unfold ffAt ffW
  congr 1
  · blk_ext! [iblk3, rowOf, e0]
  · blk_ext! [iblk3, vecL, e1]
  · blk_ext! [iblk3, vecL, e2]
  · blk_ext! [iblk3, wfL, e3]
  · blk_ext! [iblk3, bfL, e4]
  · blk_ext! [iblk3, woL, e5]
  · blk_ext! [iblk3, vecL, e6]

theorem rows3 : (dat3 V c).arrAt 7 cfg3.N = ofRows (ffAt (ffW c (V c)) 1 (V c main_v15_0)) := by
  refine (dat3 V c).arrAt_eq_of_covers 7 _ (by decide +kernel) fun t hf y => ?_
  obtain ⟨-, er, -⟩ := idx3 t
  blk_simp
  rw [after3_7, outs3]
  exact (ofRows_at (F := F) (ffAt (ffW c (V c)) 1 (V c main_v15_0)) _ (t.cast N_3) y
    ⟨by blk_simp [er]; first | done | rfl, by blk_simp [er]; first | done | rfl, by blk_simp [er]; first | done | rfl⟩).symm

/-! ### Layer 3 -/

theorem idx5 : ∀ t : Fin cfg5.N, win5_0.index t = ![t.val, 0, 0] ∧ win5_7.index t = ![t.val, 0, 0] ∧ win5_1.index t = ![2, 0, 0] ∧ win5_2.index t = ![2, 0, 0] ∧ win5_3.index t = ![2, 0, 0] ∧ win5_4.index t = ![2, 0, 0] ∧ win5_5.index t = ![2, 0, 0] ∧ win5_6.index t = ![2, 0, 0] :=
  (by decide +kernel : ∀ t : Fin grid5.N, _)

theorem outs5 (t : Fin cfg5.N) : outsAt5 V c t = ffAt (ffW c (V c)) 2 (V c main_v17_0) (t.cast N_5) := by
  obtain ⟨e0, er, e1, e2, e3, e4, e5, e6⟩ := idx5 t
  rw [outsAt5_eq]
  unfold ffAt ffW
  congr 1
  · blk_ext! [iblk5, rowOf, e0]
  · blk_ext! [iblk5, vecL, e1]
  · blk_ext! [iblk5, vecL, e2]
  · blk_ext! [iblk5, wfL, e3]
  · blk_ext! [iblk5, bfL, e4]
  · blk_ext! [iblk5, woL, e5]
  · blk_ext! [iblk5, vecL, e6]

theorem rows5 : (dat5 V c).arrAt 7 cfg5.N = ofRows (ffAt (ffW c (V c)) 2 (V c main_v17_0)) := by
  refine (dat5 V c).arrAt_eq_of_covers 7 _ (by decide +kernel) fun t hf y => ?_
  obtain ⟨-, er, -⟩ := idx5 t
  blk_simp
  rw [after5_7, outs5]
  exact (ofRows_at (F := F) (ffAt (ffW c (V c)) 2 (V c main_v17_0)) _ (t.cast N_5) y
    ⟨by blk_simp [er]; first | done | rfl, by blk_simp [er]; first | done | rfl, by blk_simp [er]; first | done | rfl⟩).symm

/-! ### Layer 4 -/

theorem idx7 : ∀ t : Fin cfg7.N, win7_0.index t = ![t.val, 0, 0] ∧ win7_7.index t = ![t.val, 0, 0] ∧ win7_1.index t = ![3, 0, 0] ∧ win7_2.index t = ![3, 0, 0] ∧ win7_3.index t = ![3, 0, 0] ∧ win7_4.index t = ![3, 0, 0] ∧ win7_5.index t = ![3, 0, 0] ∧ win7_6.index t = ![3, 0, 0] :=
  (by decide +kernel : ∀ t : Fin grid7.N, _)

theorem outs7 (t : Fin cfg7.N) : outsAt7 V c t = ffAt (ffW c (V c)) 3 (V c main_v19_0) (t.cast N_7) := by
  obtain ⟨e0, er, e1, e2, e3, e4, e5, e6⟩ := idx7 t
  rw [outsAt7_eq]
  unfold ffAt ffW
  congr 1
  · blk_ext! [iblk7, rowOf, e0]
  · blk_ext! [iblk7, vecL, e1]
  · blk_ext! [iblk7, vecL, e2]
  · blk_ext! [iblk7, wfL, e3]
  · blk_ext! [iblk7, bfL, e4]
  · blk_ext! [iblk7, woL, e5]
  · blk_ext! [iblk7, vecL, e6]

theorem rows7 : (dat7 V c).arrAt 7 cfg7.N = ofRows (ffAt (ffW c (V c)) 3 (V c main_v19_0)) := by
  refine (dat7 V c).arrAt_eq_of_covers 7 _ (by decide +kernel) fun t hf y => ?_
  obtain ⟨-, er, -⟩ := idx7 t
  blk_simp
  rw [after7_7, outs7]
  exact (ofRows_at (F := F) (ffAt (ffW c (V c)) 3 (V c main_v19_0)) _ (t.cast N_7) y
    ⟨by blk_simp [er]; first | done | rfl, by blk_simp [er]; first | done | rfl, by blk_simp [er]; first | done | rfl⟩).symm

/-! ### Layer 5 -/

theorem idx9 : ∀ t : Fin cfg9.N, win9_0.index t = ![t.val, 0, 0] ∧ win9_7.index t = ![t.val, 0, 0] ∧ win9_1.index t = ![4, 0, 0] ∧ win9_2.index t = ![4, 0, 0] ∧ win9_3.index t = ![4, 0, 0] ∧ win9_4.index t = ![4, 0, 0] ∧ win9_5.index t = ![4, 0, 0] ∧ win9_6.index t = ![4, 0, 0] :=
  (by decide +kernel : ∀ t : Fin grid9.N, _)

theorem outs9 (t : Fin cfg9.N) : outsAt9 V c t = ffAt (ffW c (V c)) 4 (V c main_v21_0) (t.cast N_9) := by
  obtain ⟨e0, er, e1, e2, e3, e4, e5, e6⟩ := idx9 t
  rw [outsAt9_eq]
  unfold ffAt ffW
  congr 1
  · blk_ext! [iblk9, rowOf, e0]
  · blk_ext! [iblk9, vecL, e1]
  · blk_ext! [iblk9, vecL, e2]
  · blk_ext! [iblk9, wfL, e3]
  · blk_ext! [iblk9, bfL, e4]
  · blk_ext! [iblk9, woL, e5]
  · blk_ext! [iblk9, vecL, e6]

theorem rows9 : (dat9 V c).arrAt 7 cfg9.N = ofRows (ffAt (ffW c (V c)) 4 (V c main_v21_0)) := by
  refine (dat9 V c).arrAt_eq_of_covers 7 _ (by decide +kernel) fun t hf y => ?_
  obtain ⟨-, er, -⟩ := idx9 t
  blk_simp
  rw [after9_7, outs9]
  exact (ofRows_at (F := F) (ffAt (ffW c (V c)) 4 (V c main_v21_0)) _ (t.cast N_9) y
    ⟨by blk_simp [er]; first | done | rfl, by blk_simp [er]; first | done | rfl, by blk_simp [er]; first | done | rfl⟩).symm

/-! ### Layer 6 -/

theorem idx11 : ∀ t : Fin cfg11.N, win11_0.index t = ![t.val, 0, 0] ∧ win11_7.index t = ![t.val, 0, 0] ∧ win11_1.index t = ![5, 0, 0] ∧ win11_2.index t = ![5, 0, 0] ∧ win11_3.index t = ![5, 0, 0] ∧ win11_4.index t = ![5, 0, 0] ∧ win11_5.index t = ![5, 0, 0] ∧ win11_6.index t = ![5, 0, 0] :=
  (by decide +kernel : ∀ t : Fin grid11.N, _)

theorem outs11 (t : Fin cfg11.N) : outsAt11 V c t = ffAt (ffW c (V c)) 5 (V c main_v23_0) (t.cast N_11) := by
  obtain ⟨e0, er, e1, e2, e3, e4, e5, e6⟩ := idx11 t
  rw [outsAt11_eq]
  unfold ffAt ffW
  congr 1
  · blk_ext! [iblk11, rowOf, e0]
  · blk_ext! [iblk11, vecL, e1]
  · blk_ext! [iblk11, vecL, e2]
  · blk_ext! [iblk11, wfL, e3]
  · blk_ext! [iblk11, bfL, e4]
  · blk_ext! [iblk11, woL, e5]
  · blk_ext! [iblk11, vecL, e6]

theorem rows11 : (dat11 V c).arrAt 7 cfg11.N = ofRows (ffAt (ffW c (V c)) 5 (V c main_v23_0)) := by
  refine (dat11 V c).arrAt_eq_of_covers 7 _ (by decide +kernel) fun t hf y => ?_
  obtain ⟨-, er, -⟩ := idx11 t
  blk_simp
  rw [after11_7, outs11]
  exact (ofRows_at (F := F) (ffAt (ffW c (V c)) 5 (V c main_v23_0)) _ (t.cast N_11) y
    ⟨by blk_simp [er]; first | done | rfl, by blk_simp [er]; first | done | rfl, by blk_simp [er]; first | done | rfl⟩).symm

/-! ### Layer 7 -/

theorem idx13 : ∀ t : Fin cfg13.N, win13_0.index t = ![t.val, 0, 0] ∧ win13_7.index t = ![t.val, 0, 0] ∧ win13_1.index t = ![6, 0, 0] ∧ win13_2.index t = ![6, 0, 0] ∧ win13_3.index t = ![6, 0, 0] ∧ win13_4.index t = ![6, 0, 0] ∧ win13_5.index t = ![6, 0, 0] ∧ win13_6.index t = ![6, 0, 0] :=
  (by decide +kernel : ∀ t : Fin grid13.N, _)

theorem outs13 (t : Fin cfg13.N) : outsAt13 V c t = ffAt (ffW c (V c)) 6 (V c main_v25_0) (t.cast N_13) := by
  obtain ⟨e0, er, e1, e2, e3, e4, e5, e6⟩ := idx13 t
  rw [outsAt13_eq]
  unfold ffAt ffW
  congr 1
  · blk_ext! [iblk13, rowOf, e0]
  · blk_ext! [iblk13, vecL, e1]
  · blk_ext! [iblk13, vecL, e2]
  · blk_ext! [iblk13, wfL, e3]
  · blk_ext! [iblk13, bfL, e4]
  · blk_ext! [iblk13, woL, e5]
  · blk_ext! [iblk13, vecL, e6]

theorem rows13 : (dat13 V c).arrAt 7 cfg13.N = ofRows (ffAt (ffW c (V c)) 6 (V c main_v25_0)) := by
  refine (dat13 V c).arrAt_eq_of_covers 7 _ (by decide +kernel) fun t hf y => ?_
  obtain ⟨-, er, -⟩ := idx13 t
  blk_simp
  rw [after13_7, outs13]
  exact (ofRows_at (F := F) (ffAt (ffW c (V c)) 6 (V c main_v25_0)) _ (t.cast N_13) y
    ⟨by blk_simp [er]; first | done | rfl, by blk_simp [er]; first | done | rfl, by blk_simp [er]; first | done | rfl⟩).symm

/-! ### Layer 8 -/

theorem idx15 : ∀ t : Fin cfg15.N, win15_0.index t = ![t.val, 0, 0] ∧ win15_9.index t = ![t.val, 0, 0] ∧ win15_1.index t = ![7, 0, 0] ∧ win15_2.index t = ![7, 0, 0] ∧ win15_3.index t = ![7, 0, 0] ∧ win15_4.index t = ![7, 0, 0] ∧ win15_5.index t = ![7, 0, 0] ∧ win15_6.index t = ![7, 0, 0] ∧ win15_7.index t = ![0, 0] ∧ win15_8.index t = ![0, 0] ∧ win15_10.index t = ![t.val, 0, 0] :=
  (by decide +kernel : ∀ t : Fin grid15.N, _)

theorem row15 (t : Fin cfg15.N) : ffOut (iblk15 V c 0 t) (iblk15 V c 1 t) (iblk15 V c 2 t) (iblk15 V c 3 t) (iblk15 V c 4 t) (iblk15 V c 5 t) (iblk15 V c 6 t)
    = ffAt (ffW c (V c)) 7 (V c main_v27_0) (t.cast N_15) := by
  obtain ⟨e0, er, e1, e2, e3, e4, e5, e6, e7, e8, ep⟩ := idx15 t
  unfold ffAt ffW
  congr 1
  · blk_ext! [iblk15, rowOf, e0]
  · blk_ext! [iblk15, vecL, e1]
  · blk_ext! [iblk15, vecL, e2]
  · blk_ext! [iblk15, wfL, e3]
  · blk_ext! [iblk15, bfL, e4]
  · blk_ext! [iblk15, woL, e5]
  · blk_ext! [iblk15, vecL, e6]

theorem outs15 (t : Fin cfg15.N) : outsAt15 V c t
    = (ffAt (ffW c (V c)) 7 (V c main_v27_0) (t.cast N_15), poolOut (ffAt (ffW c (V c)) 7 (V c main_v27_0) (t.cast N_15)) (V c main_v11) (V c main_v12)) := by
  obtain ⟨e0, er, e1, e2, e3, e4, e5, e6, e7, e8, ep⟩ := idx15 t
  rw [outsAt15_eq, row15]
  congr 2
  · blk_ext! [iblk15, e7]
  · blk_ext! [iblk15, e8]

theorem rows15 : (dat15 V c).arrAt 9 cfg15.N = ofRows (ffAt (ffW c (V c)) 7 (V c main_v27_0)) := by
  refine (dat15 V c).arrAt_eq_of_covers 9 _ (by decide +kernel) fun t hf y => ?_
  obtain ⟨-, er, -⟩ := idx15 t
  blk_simp
  rw [after15_9, outs15]
  exact (ofRows_at (F := F) (ffAt (ffW c (V c)) 7 (V c main_v27_0)) _ (t.cast N_15) y
    ⟨by blk_simp [er]; first | done | rfl, by blk_simp [er]; first | done | rfl, by blk_simp [er]; first | done | rfl⟩).symm

theorem pools15 : (dat15 V c).arrAt 10 cfg15.N = ofPools fun b => poolOut (ffAt (ffW c (V c)) 7 (V c main_v27_0) b) (V c main_v11) (V c main_v12) := by
  refine (dat15 V c).arrAt_eq_of_covers 10 _ (by decide +kernel) fun t hf y => ?_
  obtain ⟨e0, er, e1, e2, e3, e4, e5, e6, e7, e8, ep⟩ := idx15 t
  blk_simp
  rw [after15_10, outs15]
  exact (ofPools_at (F := F) (fun b => poolOut (ffAt (ffW c (V c)) 7 (V c main_v27_0) b) (V c main_v11) (V c main_v12)) _ (t.cast N_15) y
    ⟨by blk_simp [ep]; first | done | rfl, by blk_simp [ep]; first | done | rfl⟩).symm

end Cert.KernelIdeal

end
-- ==== Proof.Chain.lean ====
/-
  WHAT THE BUFFERS HOLD, call after call: the weights as the first call finds them throughout, and the hidden state and the attention array at the
  model's layer.
-/
module

public import proofs.«01_k».proof.Proof.AttnArrays
public import proofs.«01_k».proof.Proof.FfArrays
public import proofs.«01_k».proof.Proof.Gen.KernelIdeal.Frame.Fold0
public import Idealize.ShloMosaic.Lib.StableHlo.RunRead

@[expose] public section

set_option maxRecDepth 16384

noncomputable section

namespace Cert.KernelIdeal

open Idealize.ShloMosaic Idealize.ShloMosaic.TcCoe Idealize.ShloMosaic.Tactic Idealize.SL Idealize.SL.RA Idealize.SL.Sem
open Idealize.ShloMosaic.Pipeline Idealize.ShloMosaic.StableHlo
open Gen

variable {F : FTy → Type} [FloatOps F]

/-- The buffers of the weights, which no call writes. -/
abbrev wts : List (Ref sig .tc) := [main_v3, main_v4, main_arg7, main_v5, main_arg9, main_v6, main_v7, main_v8, main_arg13, main_v9,
  main_arg15, main_v10, main_v11, main_v12]

section
variable (c : Dev nD) (v v' : (b : Ref sig .tc) → Buf (Elt F) ((c : Thread nD τ).loc b)) (h : ∀ r ∈ wts, v r = v' r)
include h

theorem attnW_congr : attnW c v = attnW c v' := by
  unfold attnW
  rw [h main_v3 (by decide), h main_v4 (by decide), h main_arg7 (by decide), h main_v5 (by decide), h main_arg9 (by decide), h main_v6 (by decide)]

theorem ffW_congr : ffW c v = ffW c v' := by
  unfold ffW
  rw [h main_v7 (by decide), h main_v8 (by decide), h main_arg13 (by decide), h main_v9 (by decide), h main_arg15 (by decide), h main_v10 (by decide)]

end

variable (m : (ℓ : Loc nD τ sig) → Buf (Elt F) ℓ) (ρ : Dev nD → PrngReg) (c : Dev nD)

/-! ### The weights are kept -/

theorem kept2 : ∀ r ∈ wts, V2 m ρ c r = V1 m ρ c r := fun r h =>
  W2_of m ρ c r ((ListAll.forall_mem_of_all_decide (by decide +kernel) : ∀ a ∈ wts, ∀ w : Fin cfg0.W, arrRef spec0 w = a → (cfg0.win w).isOut = false) r h)
theorem kept3 : ∀ r ∈ wts, V3 m ρ c r = V1 m ρ c r := fun r h =>
  (W3_of m ρ c r ((ListAll.forall_mem_of_all_decide (by decide +kernel) : ∀ a ∈ wts, ∀ w : Fin cfg1.W, arrRef spec1 w = a → (cfg1.win w).isOut = false) r h)).trans (kept2 m ρ c r h)
theorem kept4 : ∀ r ∈ wts, V4 m ρ c r = V1 m ρ c r := fun r h =>
  (W4_of m ρ c r ((ListAll.forall_mem_of_all_decide (by decide +kernel) : ∀ a ∈ wts, a ∉ hostOps2_W) r h)).trans (kept3 m ρ c r h)
theorem kept5 : ∀ r ∈ wts, V5 m ρ c r = V1 m ρ c r := fun r h =>
  (W5_of m ρ c r ((ListAll.forall_mem_of_all_decide (by decide +kernel) : ∀ a ∈ wts, ∀ w : Fin cfg2.W, arrRef spec2 w = a → (cfg2.win w).isOut = false) r h)).trans (kept4 m ρ c r h)
theorem kept6 : ∀ r ∈ wts, V6 m ρ c r = V1 m ρ c r := fun r h =>
  (W6_of m ρ c r ((ListAll.forall_mem_of_all_decide (by decide +kernel) : ∀ a ∈ wts, ∀ w : Fin cfg3.W, arrRef spec3 w = a → (cfg3.win w).isOut = false) r h)).trans (kept5 m ρ c r h)
theorem kept7 : ∀ r ∈ wts, V7 m ρ c r = V1 m ρ c r := fun r h =>
  (W7_of m ρ c r ((ListAll.forall_mem_of_all_decide (by decide +kernel) : ∀ a ∈ wts, a ∉ hostOps4_W) r h)).trans (kept6 m ρ c r h)
theorem kept8 : ∀ r ∈ wts, V8 m ρ c r = V1 m ρ c r := fun r h =>
  (W8_of m ρ c r ((ListAll.forall_mem_of_all_decide (by decide +kernel) : ∀ a ∈ wts, ∀ w : Fin cfg4.W, arrRef spec4 w = a → (cfg4.win w).isOut = false) r h)).trans (kept7 m ρ c r h)
theorem kept9 : ∀ r ∈ wts, V9 m ρ c r = V1 m ρ c r := fun r h =>
  (W9_of m ρ c r ((ListAll.forall_mem_of_all_decide (by decide +kernel) : ∀ a ∈ wts, ∀ w : Fin cfg5.W, arrRef spec5 w = a → (cfg5.win w).isOut = false) r h)).trans (kept8 m ρ c r h)
theorem kept10 : ∀ r ∈ wts, V10 m ρ c r = V1 m ρ c r := fun r h =>
  (W10_of m ρ c r ((ListAll.forall_mem_of_all_decide (by decide +kernel) : ∀ a ∈ wts, a ∉ hostOps6_W) r h)).trans (kept9 m ρ c r h)
theorem kept11 : ∀ r ∈ wts, V11 m ρ c r = V1 m ρ c r := fun r h =>
  (W11_of m ρ c r ((ListAll.forall_mem_of_all_decide (by decide +kernel) : ∀ a ∈ wts, ∀ w : Fin cfg6.W, arrRef spec6 w = a → (cfg6.win w).isOut = false) r h)).trans (kept10 m ρ c r h)
theorem kept12 : ∀ r ∈ wts, V12 m ρ c r = V1 m ρ c r := fun r h =>
  (W12_of m ρ c r ((ListAll.forall_mem_of_all_decide (by decide +kernel) : ∀ a ∈ wts, ∀ w : Fin cfg7.W, arrRef spec7 w = a → (cfg7.win w).isOut = false) r h)).trans (kept11 m ρ c r h)
theorem kept13 : ∀ r ∈ wts, V13 m ρ c r = V1 m ρ c r := fun r h =>
  (W13_of m ρ c r ((ListAll.forall_mem_of_all_decide (by decide +kernel) : ∀ a ∈ wts, a ∉ hostOps8_W) r h)).trans (kept12 m ρ c r h)
theorem kept14 : ∀ r ∈ wts, V14 m ρ c r = V1 m ρ c r := fun r h =>
  (W14_of m ρ c r ((ListAll.forall_mem_of_all_decide (by decide +kernel) : ∀ a ∈ wts, ∀ w : Fin cfg8.W, arrRef spec8 w = a → (cfg8.win w).isOut = false) r h)).trans (kept13 m ρ c r h)
theorem kept15 : ∀ r ∈ wts, V15 m ρ c r = V1 m ρ c r := fun r h =>
  (W15_of m ρ c r ((ListAll.forall_mem_of_all_decide (by decide +kernel) : ∀ a ∈ wts, ∀ w : Fin cfg9.W, arrRef spec9 w = a → (cfg9.win w).isOut = false) r h)).trans (kept14 m ρ c r h)
theorem kept16 : ∀ r ∈ wts, V16 m ρ c r = V1 m ρ c r := fun r h =>
  (W16_of m ρ c r ((ListAll.forall_mem_of_all_decide (by decide +kernel) : ∀ a ∈ wts, a ∉ hostOps10_W) r h)).trans (kept15 m ρ c r h)
theorem kept17 : ∀ r ∈ wts, V17 m ρ c r = V1 m ρ c r := fun r h =>
  (W17_of m ρ c r ((ListAll.forall_mem_of_all_decide (by decide +kernel) : ∀ a ∈ wts, ∀ w : Fin cfg10.W, arrRef spec10 w = a → (cfg10.win w).isOut = false) r h)).trans (kept16 m ρ c r h)
theorem kept18 : ∀ r ∈ wts, V18 m ρ c r = V1 m ρ c r := fun r h =>
  (W18_of m ρ c r ((ListAll.forall_mem_of_all_decide (by decide +kernel) : ∀ a ∈ wts, ∀ w : Fin cfg11.W, arrRef spec11 w = a → (cfg11.win w).isOut = false) r h)).trans (kept17 m ρ c r h)
theorem kept19 : ∀ r ∈ wts, V19 m ρ c r = V1 m ρ c r := fun r h =>
  (W19_of m ρ c r ((ListAll.forall_mem_of_all_decide (by decide +kernel) : ∀ a ∈ wts, a ∉ hostOps12_W) r h)).trans (kept18 m ρ c r h)
theorem kept20 : ∀ r ∈ wts, V20 m ρ c r = V1 m ρ c r := fun r h =>
  (W20_of m ρ c r ((ListAll.forall_mem_of_all_decide (by decide +kernel) : ∀ a ∈ wts, ∀ w : Fin cfg12.W, arrRef spec12 w = a → (cfg12.win w).isOut = false) r h)).trans (kept19 m ρ c r h)
theorem kept21 : ∀ r ∈ wts, V21 m ρ c r = V1 m ρ c r := fun r h =>
  (W21_of m ρ c r ((ListAll.forall_mem_of_all_decide (by decide +kernel) : ∀ a ∈ wts, ∀ w : Fin cfg13.W, arrRef spec13 w = a → (cfg13.win w).isOut = false) r h)).trans (kept20 m ρ c r h)
theorem kept22 : ∀ r ∈ wts, V22 m ρ c r = V1 m ρ c r := fun r h =>
  (W22_of m ρ c r ((ListAll.forall_mem_of_all_decide (by decide +kernel) : ∀ a ∈ wts, a ∉ hostOps14_W) r h)).trans (kept21 m ρ c r h)
theorem kept23 : ∀ r ∈ wts, V23 m ρ c r = V1 m ρ c r := fun r h =>
  (W23_of m ρ c r ((ListAll.forall_mem_of_all_decide (by decide +kernel) : ∀ a ∈ wts, ∀ w : Fin cfg14.W, arrRef spec14 w = a → (cfg14.win w).isOut = false) r h)).trans (kept22 m ρ c r h)
theorem kept24 : ∀ r ∈ wts, V24 m ρ c r = V1 m ρ c r := fun r h =>
  (W24_of m ρ c r ((ListAll.forall_mem_of_all_decide (by decide +kernel) : ∀ a ∈ wts, ∀ w : Fin cfg15.W, arrRef spec15 w = a → (cfg15.win w).isOut = false) r h)).trans (kept23 m ρ c r h)

/-! ### The hidden state and the attention array -/

/-- The stacks, the embedding and the hidden state as the first call finds them. -/
abbrev aW : AttnW F := attnW c (V1 m ρ c)
abbrev fW : FfW F := ffW c (V1 m ρ c)
abbrev eW : Vec F S256x1024 .f32 := V1 m ρ c main_arg4
abbrev xW : Vec F S8x256x1024 .f32 := V1 m ρ c main_v2

/-- The model at these. -/
abbrev hid (l : ℕ) : Vec F S8x256x1024 .f32 := hidK (aW m ρ c) (fW m ρ c) (eW m ρ c) (xW m ρ c) l
abbrev mid (l : ℕ) : Vec F S8x256x1024 .f32 := midK (aW m ρ c) (fW m ρ c) (eW m ρ c) (xW m ρ c) l
abbrev att (l : ℕ) : Vec F S8x8x16x256x256 .f32 := attK (aW m ρ c) (fW m ρ c) (eW m ρ c) (xW m ρ c) (V1 m ρ c main_v13_1) l

theorem mid0 : V2 m ρ c main_v13_0 = mid m ρ c 0 := (W2_arr m ρ c 8).trans (rows0 (V1 m ρ) c)

theorem att0 : V2 m ρ c main_v13_1 = att m ρ c 0 := (W2_arr m ρ c 9).trans (atts0 (V1 m ρ) c)

theorem hid1 : V3 m ρ c main_v14 = hid m ρ c 1 := by
  refine (W3_arr m ρ c 7).trans ((rows1 (V2 m ρ) c).trans ?_)
  rw [ffW_congr c _ _ (kept2 m ρ c), mid0, hid, hidK_succ]
  rfl

theorem hid1' : V4 m ρ c main_v14 = hid m ρ c 1 := (W4_of m ρ c main_v14 (by decide)).trans (hid1 m ρ c)

theorem mid1 : V5 m ρ c main_v15_0 = mid m ρ c 1 := by
  refine (W5_arr m ρ c 7).trans ((rows2 (V4 m ρ) c).trans ?_)
  rw [attnW_congr c _ _ (kept4 m ρ c), hid1']
  rfl

theorem att1' : V4 m ρ c main_v15_1 = V3 m ρ c main_v13_1 := by
  show after hostOps2 (W3 m ρ c) (Proc.devRef .tc main_v15_1) = W3 m ρ c (Proc.devRef .tc main_v13_1)
  after_reads_simp
  rfl

theorem att1 : V5 m ρ c main_v15_1 = att m ρ c 1 := by
  refine (W5_arr m ρ c 8).trans ((atts2 (V4 m ρ) c).trans ?_)
  rw [attnW_congr c _ _ (kept4 m ρ c), hid1', att1', show V3 m ρ c main_v13_1 = V2 m ρ c main_v13_1 from W3_of m ρ c main_v13_1 (by decide +kernel), att0]
  rfl

theorem hid2 : V6 m ρ c main_v16 = hid m ρ c 2 := by
  refine (W6_arr m ρ c 7).trans ((rows3 (V5 m ρ) c).trans ?_)
  rw [ffW_congr c _ _ (kept5 m ρ c), mid1, hid, hidK_succ]
  rfl

theorem hid2' : V7 m ρ c main_v16 = hid m ρ c 2 := (W7_of m ρ c main_v16 (by decide)).trans (hid2 m ρ c)

theorem mid2 : V8 m ρ c main_v17_0 = mid m ρ c 2 := by
  refine (W8_arr m ρ c 7).trans ((rows4 (V7 m ρ) c).trans ?_)
  rw [attnW_congr c _ _ (kept7 m ρ c), hid2']
  rfl

theorem att2' : V7 m ρ c main_v17_1 = V6 m ρ c main_v15_1 := by
  show after hostOps4 (W6 m ρ c) (Proc.devRef .tc main_v17_1) = W6 m ρ c (Proc.devRef .tc main_v15_1)
  after_reads_simp
  rfl

theorem att2 : V8 m ρ c main_v17_1 = att m ρ c 2 := by
  refine (W8_arr m ρ c 8).trans ((atts4 (V7 m ρ) c).trans ?_)
  rw [attnW_congr c _ _ (kept7 m ρ c), hid2', att2', show V6 m ρ c main_v15_1 = V5 m ρ c main_v15_1 from W6_of m ρ c main_v15_1 (by decide +kernel), att1]
  rfl

theorem hid3 : V9 m ρ c main_v18 = hid m ρ c 3 := by
  refine (W9_arr m ρ c 7).trans ((rows5 (V8 m ρ) c).trans ?_)
  rw [ffW_congr c _ _ (kept8 m ρ c), mid2, hid, hidK_succ]
  rfl

theorem hid3' : V10 m ρ c main_v18 = hid m ρ c 3 := (W10_of m ρ c main_v18 (by decide)).trans (hid3 m ρ c)

theorem mid3 : V11 m ρ c main_v19_0 = mid m ρ c 3 := by
  refine (W11_arr m ρ c 7).trans ((rows6 (V10 m ρ) c).trans ?_)
  rw [attnW_congr c _ _ (kept10 m ρ c), hid3']
  rfl

theorem att3' : V10 m ρ c main_v19_1 = V9 m ρ c main_v17_1 := by
  show after hostOps6 (W9 m ρ c) (Proc.devRef .tc main_v19_1) = W9 m ρ c (Proc.devRef .tc main_v17_1)
  after_reads_simp
  rfl

theorem att3 : V11 m ρ c main_v19_1 = att m ρ c 3 := by
  refine (W11_arr m ρ c 8).trans ((atts6 (V10 m ρ) c).trans ?_)
  rw [attnW_congr c _ _ (kept10 m ρ c), hid3', att3', show V9 m ρ c main_v17_1 = V8 m ρ c main_v17_1 from W9_of m ρ c main_v17_1 (by decide +kernel), att2]
  rfl

theorem hid4 : V12 m ρ c main_v20 = hid m ρ c 4 := by
  refine (W12_arr m ρ c 7).trans ((rows7 (V11 m ρ) c).trans ?_)
  rw [ffW_congr c _ _ (kept11 m ρ c), mid3, hid, hidK_succ]
  rfl

theorem hid4' : V13 m ρ c main_v20 = hid m ρ c 4 := (W13_of m ρ c main_v20 (by decide)).trans (hid4 m ρ c)

theorem mid4 : V14 m ρ c main_v21_0 = mid m ρ c 4 := by
  refine (W14_arr m ρ c 7).trans ((rows8 (V13 m ρ) c).trans ?_)
  rw [attnW_congr c _ _ (kept13 m ρ c), hid4']
  rfl

theorem att4' : V13 m ρ c main_v21_1 = V12 m ρ c main_v19_1 := by
  show after hostOps8 (W12 m ρ c) (Proc.devRef .tc main_v21_1) = W12 m ρ c (Proc.devRef .tc main_v19_1)
  after_reads_simp
  rfl

theorem att4 : V14 m ρ c main_v21_1 = att m ρ c 4 := by
  refine (W14_arr m ρ c 8).trans ((atts8 (V13 m ρ) c).trans ?_)
  rw [attnW_congr c _ _ (kept13 m ρ c), hid4', att4', show V12 m ρ c main_v19_1 = V11 m ρ c main_v19_1 from W12_of m ρ c main_v19_1 (by decide +kernel), att3]
  rfl

theorem hid5 : V15 m ρ c main_v22 = hid m ρ c 5 := by
  refine (W15_arr m ρ c 7).trans ((rows9 (V14 m ρ) c).trans ?_)
  rw [ffW_congr c _ _ (kept14 m ρ c), mid4, hid, hidK_succ]
  rfl

theorem hid5' : V16 m ρ c main_v22 = hid m ρ c 5 := (W16_of m ρ c main_v22 (by decide)).trans (hid5 m ρ c)

theorem mid5 : V17 m ρ c main_v23_0 = mid m ρ c 5 := by
  refine (W17_arr m ρ c 7).trans ((rows10 (V16 m ρ) c).trans ?_)
  rw [attnW_congr c _ _ (kept16 m ρ c), hid5']
  rfl

theorem att5' : V16 m ρ c main_v23_1 = V15 m ρ c main_v21_1 := by
  show after hostOps10 (W15 m ρ c) (Proc.devRef .tc main_v23_1) = W15 m ρ c (Proc.devRef .tc main_v21_1)
  after_reads_simp
  rfl

theorem att5 : V17 m ρ c main_v23_1 = att m ρ c 5 := by
  refine (W17_arr m ρ c 8).trans ((atts10 (V16 m ρ) c).trans ?_)
  rw [attnW_congr c _ _ (kept16 m ρ c), hid5', att5', show V15 m ρ c main_v21_1 = V14 m ρ c main_v21_1 from W15_of m ρ c main_v21_1 (by decide +kernel), att4]
  rfl

theorem hid6 : V18 m ρ c main_v24 = hid m ρ c 6 := by
  refine (W18_arr m ρ c 7).trans ((rows11 (V17 m ρ) c).trans ?_)
  rw [ffW_congr c _ _ (kept17 m ρ c), mid5, hid, hidK_succ]
  rfl

theorem hid6' : V19 m ρ c main_v24 = hid m ρ c 6 := (W19_of m ρ c main_v24 (by decide)).trans (hid6 m ρ c)

theorem mid6 : V20 m ρ c main_v25_0 = mid m ρ c 6 := by
  refine (W20_arr m ρ c 7).trans ((rows12 (V19 m ρ) c).trans ?_)
  rw [attnW_congr c _ _ (kept19 m ρ c), hid6']
  rfl

theorem att6' : V19 m ρ c main_v25_1 = V18 m ρ c main_v23_1 := by
  show after hostOps12 (W18 m ρ c) (Proc.devRef .tc main_v25_1) = W18 m ρ c (Proc.devRef .tc main_v23_1)
  after_reads_simp
  rfl

theorem att6 : V20 m ρ c main_v25_1 = att m ρ c 6 := by
  refine (W20_arr m ρ c 8).trans ((atts12 (V19 m ρ) c).trans ?_)
  rw [attnW_congr c _ _ (kept19 m ρ c), hid6', att6', show V18 m ρ c main_v23_1 = V17 m ρ c main_v23_1 from W18_of m ρ c main_v23_1 (by decide +kernel), att5]
  rfl

theorem hid7 : V21 m ρ c main_v26 = hid m ρ c 7 := by
  refine (W21_arr m ρ c 7).trans ((rows13 (V20 m ρ) c).trans ?_)
  rw [ffW_congr c _ _ (kept20 m ρ c), mid6, hid, hidK_succ]
  rfl

theorem hid7' : V22 m ρ c main_v26 = hid m ρ c 7 := (W22_of m ρ c main_v26 (by decide)).trans (hid7 m ρ c)

theorem mid7 : V23 m ρ c main_v27_0 = mid m ρ c 7 := by
  refine (W23_arr m ρ c 7).trans ((rows14 (V22 m ρ) c).trans ?_)
  rw [attnW_congr c _ _ (kept22 m ρ c), hid7']
  rfl

theorem att7' : V22 m ρ c main_v27_1 = V21 m ρ c main_v25_1 := by
  show after hostOps14 (W21 m ρ c) (Proc.devRef .tc main_v27_1) = W21 m ρ c (Proc.devRef .tc main_v25_1)
  after_reads_simp
  rfl

theorem att7 : V23 m ρ c main_v27_1 = att m ρ c 7 := by
  refine (W23_arr m ρ c 8).trans ((atts14 (V22 m ρ) c).trans ?_)
  rw [attnW_congr c _ _ (kept22 m ρ c), hid7', att7', show V21 m ρ c main_v25_1 = V20 m ρ c main_v25_1 from W21_of m ρ c main_v25_1 (by decide +kernel), att6]
  rfl

/-! ### The results -/

theorem pools : V24 m ρ c main_v28_1
    = ofPools fun b => poolOut (ffAt (fW m ρ c) 7 (mid m ρ c 7) b) (V1 m ρ c main_v11) (V1 m ρ c main_v12) := by
  refine (W24_arr m ρ c 10).trans ((pools15 (V23 m ρ) c).trans ?_)
  rw [ffW_congr c _ _ (kept23 m ρ c), mid7, kept23 m ρ c main_v11 (by decide), kept23 m ρ c main_v12 (by decide)]

/-- The pooled result: the pooled array without its unit axis. -/
theorem result_pooled : W25 m ρ c (Proc.devRef .tc main_v29)
    = shapeCast S8x1024 (ofPools fun b => poolOut (ffAt (fW m ρ c) 7 (mid m ρ c 7) b) (V1 m ρ c main_v11) (V1 m ρ c main_v12))
      shapeCasts_S8x1x1024_S8x1024 := by
  rw [← pools]
  show after hostOps16 (W24 m ρ c) (Proc.devRef .tc main_v29) = _
  after_reads_simp
  rfl

/-- The attention result. -/
theorem result_att : W25 m ρ c (Proc.devRef .tc main_v27_1) = att m ρ c 7 :=
  (W25_of m ρ c main_v27_1 (by decide)).trans ((W24_of m ρ c main_v27_1 (by decide +kernel)).trans (att7 m ρ c))

end Cert.KernelIdeal

end
-- ==== Proof.Norm.lean ====
/-
  THE LAYER NORMALISATION OF ONE ROW, over the extended reals: dividing the deviation by the root of the variance is multiplying it by the reciprocal
  root, as the variance plus the small constant is positive. Also the constants that the two programs write differently.
-/
module

public import Idealize.ShloMosaic.Lib.Pointwise
public import Idealize.ShloMosaic.Lib.IdealHost

@[expose] public section

noncomputable section

namespace Cert.Layer

open Idealize.ShloMosaic

/-- The number of features, the small constant, and the attention scale and its reciprocal, as written. -/
abbrev nF : EReal := Ideal.ofBits .f32 0x44800000#32
abbrev eps : EReal := Ideal.ofBits .f32 0x3727C5AC#32

theorem nF_eq : nF = ((1024 : ℝ) : EReal) := by
  simp [nF, Ideal.ofBits, Ideal.ieee, -EReal.coe_mul]
  norm_num

theorem eps_pos : 0 < eps := by
  rw [show eps = (((10995116 : ℝ) * 2⁻¹ ^ 40 : ℝ) : EReal) from by simp [eps, Ideal.ofBits, Ideal.ieee]]
  exact_mod_cast (by positivity : (0 : ℝ) < 10995116 * 2⁻¹ ^ 40)

theorem eighth_eq : Ideal.ofBits .f32 0x3E000000#32 = ((1 / 8 : ℝ) : EReal) := by
  simp [Ideal.ofBits, Ideal.ieee, -EReal.coe_mul]
  norm_num

theorem eight_eq : Ideal.ofBits .f32 0x41000000#32 = ((8 : ℝ) : EReal) := by
  simp [Ideal.ofBits, Ideal.ieee, -EReal.coe_mul]
  norm_num

theorem negInf_eq : Ideal.ofBits .f32 0xFF800000#32 = (⊥ : EReal) := by
  simp [Ideal.ofBits, Ideal.ieee]

/-- Multiplying by an eighth is dividing by eight. -/
theorem mul_eighth (x : EReal) : x * Ideal.ofBits .f32 0x3E000000#32 = Ideal.div x (Ideal.ofBits .f32 0x41000000#32) := by
  rw [eighth_eq, eight_eq, Ideal.div_coe (by norm_num)]

theorem max_negInf (x : EReal) : max (Ideal.ofBits .f32 0xFF800000#32) x = x := by
  rw [negInf_eq]; exact max_eq_right bot_le

/-- A square is not negative. -/
theorem sq_nonneg' (x : EReal) : 0 ≤ x * x := by
  induction x with
  | bot => simp
  | top => simp
  | coe r => exact_mod_cast mul_self_nonneg r

/-- Over a positive number, dividing by the root is multiplying by the reciprocal root. -/
theorem div_sqrt (c v : EReal) (hv : 0 < v) : Ideal.div c (Ideal.sqrt v) = c * Ideal.rsqrt v := by
  induction v with
  | bot => simp at hv
  | top => simp [Ideal.div]
  | coe r =>
    have hr : 0 < r := by exact_mod_cast hv
    have hs : Real.sqrt r ≠ 0 := (Real.sqrt_pos.mpr hr).ne'
    rw [Ideal.sqrt_coe, Ideal.rsqrt_coe, if_neg hr.le.not_gt, if_neg hr.le.not_gt, if_neg hr.ne', Ideal.div_coe hs, one_div]

variable (x : Fin 1024 → EReal)

/-- The mean and the variance of a row. -/
def mean : EReal := Ideal.div (∑ k, x k) nF
def vari : EReal := Ideal.div (∑ k, (x k - mean x) * (x k - mean x)) nF

/-- The normalised row, scaled and shifted. -/
def ln (w b : Fin 1024 → EReal) (d : Fin 1024) : EReal := (x d - mean x) * Ideal.rsqrt (vari x + eps) * w d + b d

theorem vari_nonneg : 0 ≤ vari x := by
  unfold vari
  rw [nF_eq, Ideal.div_coe (by norm_num)]
  exact mul_nonneg (Finset.sum_nonneg fun k _ => sq_nonneg' _) (by exact_mod_cast (by norm_num : (0 : ℝ) ≤ 1 / 1024))

/-- The same with a division by the root. -/
theorem ln_div (w b : Fin 1024 → EReal) (d : Fin 1024) :
    Ideal.div (x d - mean x) (Ideal.sqrt (vari x + eps)) * w d + b d = ln x w b d := by
  rw [ln, div_sqrt _ _ (eps_pos.trans_le (le_add_of_nonneg_left (vari_nonneg x)))]

end Cert.Layer

end
-- ==== Proof.Spec.lean ====
/-
  ONE LAYER, as functions of a batch row over the extended reals: what both programs compute. `x t d` is feature `d` of position `t`; of the 3072 columns
  of the joint product, head `h` has the queries `64 h …`, the keys `1024 + 64 h …` and the values `2048 + 64 h …`.
-/
module

public import proofs.«01_k».proof.Proof.Norm

@[expose] public section

set_option maxRecDepth 16384

noncomputable section

namespace Cert.Layer

open Idealize.ShloMosaic

/-- A row times a matrix, with a bias, of the normalised row. -/
def linear {n : ℕ} (x lw lb : Fin 1024 → EReal) (w : Fin 1024 → Fin n → EReal) (b : Fin n → EReal) (i : Fin n) : EReal :=
  ∑ k, ln x lw lb k * w k i + b i

/-- The score of head `h` between positions `t` and `u`. -/
def score (q : Fin 256 → Fin 3072 → EReal) (h : Fin 16) (t u : Fin 256) : EReal :=
  Ideal.div (∑ x : Fin 64, q t ⟨h.val * 64 + x.val, by omega⟩ * q u ⟨1024 + (h.val * 64 + x.val), by omega⟩) (Ideal.ofBits .f32 0x41000000#32)

/-- The largest entry of a row. -/
def top (v : Fin 256 → EReal) : EReal := Finset.univ.fold max (Ideal.ofBits .f32 0xFF800000#32) v

/-- The softmax of a row. -/
def soft (v : Fin 256 → EReal) (u : Fin 256) : EReal := Ideal.div (Ideal.exp (v u - top v)) (∑ x, Ideal.exp (v x - top v))

/-- The attention of head `h`. -/
def attn (q : Fin 256 → Fin 3072 → EReal) (h : Fin 16) (t u : Fin 256) : EReal := soft (score q h t) u

/-- The weighted values, all heads side by side. -/
def heads (q : Fin 256 → Fin 3072 → EReal) (t : Fin 256) (x : Fin 1024) : EReal :=
  ∑ u, attn q ⟨x.val / 64, by omega⟩ t u * q u ⟨2048 + x.val, by omega⟩

/-- The row after the attention half of the layer. -/
def proj (x : Fin 256 → Fin 1024 → EReal) (q : Fin 256 → Fin 3072 → EReal) (w : Fin 1024 → Fin 1024 → EReal) (b : Fin 1024 → EReal)
    (t : Fin 256) (d : Fin 1024) : EReal := x t d + ∑ k, heads q t k * w k d + b d

/-- The smooth gate of the feed-forward half. -/
def gate (x : EReal) : EReal :=
  x * (Ideal.ofBits .f32 0x3F000000#32 * (Ideal.ofBits .f32 0x3F800000#32 +
    Ideal.tanh (Ideal.ofBits .f32 0x3F4C422A#32 * (x + Ideal.ofBits .f32 0x3D372713#32 * (x * x * x)))))

/-- The row after the feed-forward half of the layer, of its hidden features. -/
def feed (x : Fin 1024 → EReal) (g : Fin 4096 → EReal) (w : Fin 4096 → Fin 1024 → EReal) (b : Fin 1024 → EReal) (d : Fin 1024) : EReal :=
  x d + ∑ k, gate (g k) * w k d + b d

end Cert.Layer

end
-- ==== Proof.KerAttn.lean ====
/-
  THE ATTENTION CALL'S BLOCK FUNCTION, read at a place: the layer's mathematics.
-/
module

public import proofs.«01_k».proof.Proof.Spec
public import proofs.«01_k».proof.Proof.ArrayModel

@[expose] public section

set_option maxRecDepth 16384

noncomputable section

namespace Cert.Layer

open Idealize.ShloMosaic Cert.KernelIdeal Cert.KernelIdeal.Gen

/-- A block's row, matrices and vectors as functions of their coordinates. -/
abbrev xOf (x : Vec Ideal S1x256x1024 .f32) : Fin 256 → Fin 1024 → EReal := fun t d => x (ix3 0 t d)
abbrev vOf (w : Vec Ideal S1x1x1024 .f32) : Fin 1024 → EReal := fun d => w (ix3 0 0 d)
abbrev qOf (Q : FVec Ideal S256x3072 .f32) : Fin 256 → Fin 3072 → EReal := fun t n => Q (ix2 t n)

theorem qkv_at (x : Vec Ideal S1x256x1024 .f32) (w b : Vec Ideal S1x1x1024 .f32) (wq : Vec Ideal S1x1024x3072 .f32) (bq : Vec Ideal S1x1x3072 .f32)
    (t : Fin 256) (n : Fin 3072) :
    k2_pay2 x w b wq bq (ix2 t n) = linear (xOf x t) (vOf w) (vOf b) (fun k n => wq (ix3 0 k n)) (fun n => bq (ix3 0 0 n)) n := by
  pointwise [k2_pay2]
  rfl

theorem cols_at (Q : FVec Ideal S256x3072 .f32) (o : ℕ) (h : o + 64 ≤ 3072) (t : Fin 256) (x : Fin 64) :
    cols Q o h (ix2 t x) = Q (ix2 t ⟨o + x.val, by omega⟩) := by
  refine congrArg Q (funext fun a => ?_)
  match a with
  | ⟨0, _⟩ => exact Fin.ext (by simp [qkvRect])
  | ⟨1, _⟩ => exact Fin.ext (by simp [qkvRect])

theorem pay3_at (a b : Vec Ideal S256x64 .f32) (t u : Fin 256) :
    k2_pay3 a b (ix5 0 0 0 t u) = (∑ x, a (ix2 t x) * b (ix2 u x)) * Ideal.ofBits .f32 0x3E000000#32 := by
  pointwise [k2_pay3]

theorem scoreHead_at (Q : FVec Ideal S256x3072 .f32) (i : ℕ) (h : i < 16) (t u : Fin 256) :
    scoreHead Q i h (ix5 0 0 0 t u) = score (qOf Q) ⟨i, h⟩ t u := by
  rw [scoreHead, pay3_at, mul_eighth, score]
  refine congrArg (fun z => Ideal.div z _) (Finset.sum_congr rfl fun x _ => ?_)
  rw [cols_at, cols_at]
  simp only [qOf, Nat.mul_comm 64 i, Nat.add_assoc]

theorem pay19_at (v : Vec Ideal S1x1x1x256x256 .f32) (t u : Fin 256) :
    k2_pay19 v (ix5 0 0 0 t u) = soft (fun u => v (ix5 0 0 0 t u)) u := by
  pointwise [k2_pay19]
  rfl

theorem attHead_at (Q : FVec Ideal S256x3072 .f32) (i : ℕ) (h : i < 16) (t u : Fin 256) :
    attHead Q i h (ix5 0 0 0 t u) = attn (qOf Q) ⟨i, h⟩ t u := by
  rw [attHead, pay19_at, attn]
  exact congrArg (fun f => soft f u) (funext fun u => scoreHead_at Q i h t u)

theorem pay43_at (a : Vec Ideal S256x64 .f32) (v : Vec Ideal S1x1x1x256x256 .f32) (x : Fin 64) (t : Fin 256) :
    k2_pay43 a v (ix2 x t) = ∑ u, a (ix2 u x) * v (ix5 0 0 0 t u) := by
  pointwise [k2_pay43]

theorem yBlk_at (Q : FVec Ideal S256x3072 .f32) (x : Fin 1024) (t : Fin 256) : yBlk Q (ix2 x t) = heads (qOf Q) t x := by
  refine (pay43_at _ _ ⟨x.val % 64, Nat.mod_lt _ (by decide)⟩ t).trans (Finset.sum_congr rfl fun u _ => ?_)
  refine (mul_comm _ _).trans ?_
  rw [cols_at]
  refine congrArg₂ (· * ·) (attHead_at Q _ _ t u) ?_
  refine congrArg (qOf Q u) (Fin.ext ?_)
  show 2048 + 64 * (x.val / 64) + x.val % 64 = 2048 + x.val
  omega

theorem rowBlk_pay (b : Vec Ideal S1x256x1024 .f32) (Y : Vec Ideal S1024x256 .f32) (wp : Vec Ideal S1x1024x1024 .f32) (bp : Vec Ideal S1x1x1024 .f32)
    (t : Fin 256) (d : Fin 1024) :
    k2_pay1 (k2_pay61 b Y wp) (k2_pay62 bp) (ix3 0 t d) = b (ix3 0 t d) + ∑ k, Y (ix2 k t) * wp (ix3 0 k d) + bp (ix3 0 0 d) := by
  pointwise [k2_pay1, k2_pay61, k2_pay62]

theorem rowBlk_at (b : Vec Ideal S1x256x1024 .f32) (Q : FVec Ideal S256x3072 .f32) (wp : Vec Ideal S1x1024x1024 .f32) (bp : Vec Ideal S1x1x1024 .f32)
    (t : Fin 256) (d : Fin 1024) :
    rowBlk b Q wp bp (ix3 0 t d) = proj (xOf b) (qOf Q) (fun k d => wp (ix3 0 k d)) (vOf bp) t d := by
  rw [rowBlk, rowBlk_pay, proj]
  simp only [yBlk_at]

theorem attBlk_at (Q : FVec Ideal S256x3072 .f32) (h : Fin 16) (t u : Fin 256) : attBlk Q (ix5 0 0 h t u) = attn (qOf Q) h t u :=
  attHead_at Q h.val h.isLt t u

theorem emb_at (x : Vec Ideal S1x256x1024 .f32) (e : Vec Ideal S256x1024 .f32) (t : Fin 256) (d : Fin 1024) :
    k0_pay3 x e (ix3 0 t d) = x (ix3 0 t d) + e (ix2 t d) := by
  pointwise [k0_pay3, k0_pay2]

/-- The first layer's product is the other layers' product of the row with the embedding added. -/
theorem qkv0 (x : Vec Ideal S1x256x1024 .f32) (e : Vec Ideal S256x1024 .f32) (w b : Vec Ideal S1x1x1024 .f32) (wq : Vec Ideal S1x1024x3072 .f32)
    (bq : Vec Ideal S1x1x3072 .f32) : k0_pay5 (k0_pay4 x e w b wq) bq = k2_pay2 (k0_pay3 x e) w b wq bq := by
  funext i
  obtain ⟨t, n, rfl⟩ : ∃ (t : Fin 256) (n : Fin 3072), i = ix2 t n := ⟨i 0, i 1, by funext a; fin_cases a <;> rfl⟩
  rw [qkv_at]
  rw [show xOf (k0_pay3 x e) t = fun d => x (ix3 0 t d) + e (ix2 t d) from funext fun d => emb_at x e t d]
  pointwise [k0_pay5, k0_pay4, k0_pay2]
  rfl

theorem attnOut0_eq (x : Vec Ideal S1x256x1024 .f32) (e : Vec Ideal S256x1024 .f32) (w b : Vec Ideal S1x1x1024 .f32) (wq : Vec Ideal S1x1024x3072 .f32)
    (bq : Vec Ideal S1x1x3072 .f32) (wp : Vec Ideal S1x1024x1024 .f32) (bp : Vec Ideal S1x1x1024 .f32) :
    attnOut0 x e w b wq bq wp bp = attnOut (k0_pay3 x e) w b wq bq wp bp := by
  rw [attnOut0, attnOut, qkv0]

end Cert.Layer

end
-- ==== Proof.KerFf.lean ====
/-
  THE FEED-FORWARD CALL'S BLOCK FUNCTION, read at a place. The call takes the hidden features in two halves.
-/
module

public import proofs.«01_k».proof.Proof.Spec
public import proofs.«01_k».proof.Proof.ArrayModel

@[expose] public section

set_option maxRecDepth 16384

noncomputable section

namespace Cert.Layer

open Idealize.ShloMosaic Cert.KernelIdeal Cert.KernelIdeal.Gen

theorem norm_at (x : Vec Ideal S1x256x1024 .f32) (w b : Vec Ideal S1x1x1024 .f32) (t : Fin 256) (d : Fin 1024) :
    k1_pay2 x w b (ix2 t d) = ln (fun d => x (ix3 0 t d)) (fun d => w (ix3 0 0 d)) (fun d => b (ix3 0 0 d)) d := by
  pointwise [k1_pay2]
  rfl

theorem res_at (x : Vec Ideal S1x256x1024 .f32) (b : Vec Ideal S1x1x1024 .f32) (t : Fin 256) (d : Fin 1024) :
    k1_pay3 x b (ix2 t d) = x (ix3 0 t d) + b (ix3 0 0 d) := by
  pointwise [k1_pay3]

theorem hidden_at (A : Vec Ideal S256x1024 .f32) (w : Vec Ideal S1x1024x2048 .f32) (b : Vec Ideal S1x1x2048 .f32) (t : Fin 256) (n : Fin 2048) :
    k1_pay5 A w b (ix2 t n) = ∑ k, A (ix2 t k) * w (ix3 0 k n) + b (ix3 0 0 n) := by
  pointwise [k1_pay5]

/-- The gate with the cube grouped the other way. -/
theorem gate_comm (x : EReal) : x * (Ideal.ofBits .f32 0x3F000000#32 * (Ideal.ofBits .f32 0x3F800000#32 +
    Ideal.tanh (Ideal.ofBits .f32 0x3F4C422A#32 * (x + Ideal.ofBits .f32 0x3D372713#32 * (x * (x * x)))))) = gate x := by
  rw [gate, mul_comm x (x * x)]

theorem lo_at (R A : FVec Ideal S256x1024 .f32) (w : Vec Ideal S1x1024x2048 .f32) (b : Vec Ideal S1x1x2048 .f32) (o : Vec Ideal S1x2048x1024 .f32)
    (t : Fin 256) (d : Fin 1024) :
    k1_pay4 R A w b o (ix2 t d) = R (ix2 t d) + ∑ n, gate (∑ k, A (ix2 t k) * w (ix3 0 k n) + b (ix3 0 0 n)) * o (ix3 0 n d) := by
  simp only [← gate_comm]
  pointwise [k1_pay4]

theorem hi_at (R : FVec Ideal S256x1024 .f32) (g : FVec Ideal S256x2048 .f32) (c : FVec Ideal S256x2048 .f32) (o : Vec Ideal S1x2048x1024 .f32)
    (hc : ∀ t n, c (ix2 t n) = g (ix2 t n) * (g (ix2 t n) * g (ix2 t n))) (t : Fin 256) (d : Fin 1024) :
    k1_pay1 R g c o (ix3 0 t d) = R (ix2 t d) + ∑ n, gate (g (ix2 t n)) * o (ix3 0 n d) := by
  simp only [← gate_comm, ← hc]
  pointwise [k1_pay1]

theorem cube_at (A : Vec Ideal S256x1024 .f32) (w : Vec Ideal S1x1024x2048 .f32) (b : Vec Ideal S1x1x2048 .f32) (t : Fin 256) (n : Fin 2048) :
    k1_pay6 A w b (ix2 t n) = k1_pay5 A w b (ix2 t n) * (k1_pay5 A w b (ix2 t n) * k1_pay5 A w b (ix2 t n)) := by
  pointwise [k1_pay6]

theorem wfcHalf_at (x : Vec Ideal S1x1024x4096 .f32) (o : ℕ) (h : o + 2048 ≤ 4096) (k : Fin 1024) (n : Fin 2048) :
    wfcHalf x o h (ix3 0 k n) = x (ix3 0 k ⟨o + n.val, by omega⟩) := by
  refine congrArg x (funext fun a => ?_)
  match a with
  | ⟨0, _⟩ => exact Subsingleton.elim (α := Fin 1) _ _
  | ⟨1, _⟩ => exact Fin.ext (by simp [wfcRect])
  | ⟨2, _⟩ => exact Fin.ext (by simp [wfcRect])

theorem bfcHalf_at (x : Vec Ideal S1x1x4096 .f32) (o : ℕ) (h : o + 2048 ≤ 4096) (n : Fin 2048) :
    bfcHalf x o h (ix3 0 0 n) = x (ix3 0 0 ⟨o + n.val, by omega⟩) := by
  refine congrArg x (funext fun a => ?_)
  match a with
  | ⟨0, _⟩ => exact Subsingleton.elim (α := Fin 1) _ _
  | ⟨1, _⟩ => exact Subsingleton.elim (α := Fin 1) _ _
  | ⟨2, _⟩ => exact Fin.ext (by simp [bfcRect])

theorem woutHalf_at (x : Vec Ideal S1x4096x1024 .f32) (o : ℕ) (h : o + 2048 ≤ 4096) (n : Fin 2048) (d : Fin 1024) :
    woutHalf x o h (ix3 0 n d) = x (ix3 0 ⟨o + n.val, by omega⟩ d) := by
  refine congrArg x (funext fun a => ?_)
  match a with
  | ⟨0, _⟩ => exact Subsingleton.elim (α := Fin 1) _ _
  | ⟨1, _⟩ => exact Fin.ext (by simp [woutRect])
  | ⟨2, _⟩ => exact Fin.ext (by simp [woutRect])

/-- A sum over 4096 places is the sum over the first 2048 and the sum over the last 2048. -/
theorem sum_halves (f : Fin 4096 → EReal) :
    ∑ k, f k = ∑ n : Fin 2048, f ⟨0 + n.val, by omega⟩ + ∑ n : Fin 2048, f ⟨2048 + n.val, by omega⟩ := by
  rw [Fin.sum_univ_tiles 2 2048 (by norm_num) f, Fin.sum_univ_two]
  rfl

theorem ffOut_at (x : Vec Ideal S1x256x1024 .f32) (w b : Vec Ideal S1x1x1024 .f32) (wf : Vec Ideal S1x1024x4096 .f32) (bf : Vec Ideal S1x1x4096 .f32)
    (wo : Vec Ideal S1x4096x1024 .f32) (bo : Vec Ideal S1x1x1024 .f32) (t : Fin 256) (d : Fin 1024) :
    ffOut x w b wf bf wo bo (ix3 0 t d) = feed (fun d => x (ix3 0 t d))
      (linear (fun d => x (ix3 0 t d)) (fun d => w (ix3 0 0 d)) (fun d => b (ix3 0 0 d)) (fun k n => wf (ix3 0 k n)) (fun n => bf (ix3 0 0 n)))
      (fun n d => wo (ix3 0 n d)) (fun d => bo (ix3 0 0 d)) d := by
  rw [ffOut, hi_at _ _ _ _ (cube_at _ _ _), ffLo, lo_at, res_at, feed, sum_halves]
  simp only [hidden_at, norm_at, wfcHalf_at, bfcHalf_at, woutHalf_at, linear]
  ac_rfl

end Cert.Layer

end
-- ==== Proof.KerPool.lean ====
/-
  THE POOLED BLOCK, read at a place: the first position of the last hidden state, normalised.
-/
module

public import proofs.«01_k».proof.Proof.Spec
public import proofs.«01_k».proof.Proof.ArrayModel

@[expose] public section

set_option maxRecDepth 16384

noncomputable section

namespace Cert.Layer

open Idealize.ShloMosaic Cert.KernelIdeal Cert.KernelIdeal.Gen

theorem firstPos_at (r : FVec Ideal S1x256x1024 .f32) (d : Fin 1024) : firstPos r (ix3 0 0 d) = r (ix3 0 0 d) := by
  refine congrArg r (funext fun a => ?_)
  match a with
  | ⟨0, _⟩ => exact Subsingleton.elim (α := Fin 1) _ _
  | ⟨1, _⟩ => exact Fin.ext (by simp [firstRect])
  | ⟨2, _⟩ => exact Fin.ext (by simp [firstRect])

theorem pool_pay (f : Vec Ideal S1x1x1024 .f32) (w b : Vec Ideal S1x1024 .f32) (d : Fin 1024) :
    k15_pay1 (k15_pay8 w) (k15_pay9 b) (k15_pay10 f) (k15_pay11 f) k15_pay12 (ix3 0 0 d)
      = ln (fun d => f (ix3 0 0 d)) (fun d => w (ix2 0 d)) (fun d => b (ix2 0 d)) d := by
  pointwise [k15_pay1, k15_pay8, k15_pay9, k15_pay10, k15_pay11, k15_pay12]
  rfl

theorem poolOut_at (r : FVec Ideal S1x256x1024 .f32) (w b : Vec Ideal S1x1024 .f32) (d : Fin 1024) :
    poolOut r w b (ix3 0 0 d) = ln (fun d => r (ix3 0 0 d)) (fun d => w (ix2 0 d)) (fun d => b (ix2 0 d)) d := by
  rw [poolOut, pool_pay]
  simp only [firstPos_at]

end Cert.Layer

end
-- ==== Proof.RefWeights.lean ====
/-
  THE REFERENCE'S LAYER OF EACH STACK: in trip `j` the slice that begins at `j` is layer `j`.
-/
module

public import Idealize.ShloMosaic.Lib.Pointwise
public import proofs.«01_k».proof.Proof.Gen.ReferenceIdeal.Step

@[expose] public section

set_option maxRecDepth 16384

noncomputable section

namespace Cert.Layer

open Idealize.ShloMosaic Cert.ReferenceIdeal Cert.ReferenceIdeal.Step

variable (j : ℕ) (hj : j < 8) (s : State Ideal)

/-- A layer's number as a signed word. -/
theorem word_layer (j : ℕ) (hj : j < 8) : (BitVec.ofNat 32 j).toInt = j := by
  interval_cases j <;> rfl

include hj

theorem b2_at (k : Fin 1024) : b2 j s (ix1 k) = s.main_v13_0 (ix2 ⟨j, hj⟩ k) := by
  pointwise [b2, b1]
  refine congrArg s.main_v13_0 (funext fun a => ?_)
  match a with
  | ⟨0, _⟩ => exact Fin.ext (by simp [Host.clampedStart, constantI, word_layer j hj]; omega)
  | ⟨1, _⟩ => exact Fin.ext (by simp [Host.clampedStart])

theorem b5_at (k : Fin 1024) : b5 j s (ix1 k) = s.main_v13_1 (ix2 ⟨j, hj⟩ k) := by
  pointwise [b5, b4]
  refine congrArg s.main_v13_1 (funext fun a => ?_)
  match a with
  | ⟨0, _⟩ => exact Fin.ext (by simp [Host.clampedStart, constantI, word_layer j hj]; omega)
  | ⟨1, _⟩ => exact Fin.ext (by simp [Host.clampedStart])

theorem b12_at (k : Fin 3072) : b12 j s (ix1 k) = s.main_v13_3 (ix2 ⟨j, hj⟩ k) := by
  pointwise [b12, b11]
  refine congrArg s.main_v13_3 (funext fun a => ?_)
  match a with
  | ⟨0, _⟩ => exact Fin.ext (by simp [Host.clampedStart, constantI, word_layer j hj]; omega)
  | ⟨1, _⟩ => exact Fin.ext (by simp [Host.clampedStart])

theorem b19_at (k : Fin 1024) : b19 j s (ix1 k) = s.main_v13_5 (ix2 ⟨j, hj⟩ k) := by
  pointwise [b19, b18]
  refine congrArg s.main_v13_5 (funext fun a => ?_)
  match a with
  | ⟨0, _⟩ => exact Fin.ext (by simp [Host.clampedStart, constantI, word_layer j hj]; omega)
  | ⟨1, _⟩ => exact Fin.ext (by simp [Host.clampedStart])

theorem b22_at (k : Fin 1024) : b22 j s (ix1 k) = s.main_v13_6 (ix2 ⟨j, hj⟩ k) := by
  pointwise [b22, b21]
  refine congrArg s.main_v13_6 (funext fun a => ?_)
  match a with
  | ⟨0, _⟩ => exact Fin.ext (by simp [Host.clampedStart, constantI, word_layer j hj]; omega)
  | ⟨1, _⟩ => exact Fin.ext (by simp [Host.clampedStart])

theorem b25_at (k : Fin 1024) : b25 j s (ix1 k) = s.main_v13_7 (ix2 ⟨j, hj⟩ k) := by
  pointwise [b25, b24]
  refine congrArg s.main_v13_7 (funext fun a => ?_)
  match a with
  | ⟨0, _⟩ => exact Fin.ext (by simp [Host.clampedStart, constantI, word_layer j hj]; omega)
  | ⟨1, _⟩ => exact Fin.ext (by simp [Host.clampedStart])

theorem b32_at (k : Fin 4096) : b32 j s (ix1 k) = s.main_v13_9 (ix2 ⟨j, hj⟩ k) := by
  pointwise [b32, b31]
  refine congrArg s.main_v13_9 (funext fun a => ?_)
  match a with
  | ⟨0, _⟩ => exact Fin.ext (by simp [Host.clampedStart, constantI, word_layer j hj]; omega)
  | ⟨1, _⟩ => exact Fin.ext (by simp [Host.clampedStart])

theorem b39_at (k : Fin 1024) : b39 j s (ix1 k) = s.main_v13_11 (ix2 ⟨j, hj⟩ k) := by
  pointwise [b39, b38]
  refine congrArg s.main_v13_11 (funext fun a => ?_)
  match a with
  | ⟨0, _⟩ => exact Fin.ext (by simp [Host.clampedStart, constantI, word_layer j hj]; omega)
  | ⟨1, _⟩ => exact Fin.ext (by simp [Host.clampedStart])

theorem b9_at (k : Fin 1024) (n : Fin 3072) : b9 j s (ix2 k n) = s.main_v13_2 (ix3 ⟨j, hj⟩ k n) := by
  pointwise [b9, b8]
  refine congrArg s.main_v13_2 (funext fun a => ?_)
  match a with
  | ⟨0, _⟩ => exact Fin.ext (by simp [Host.clampedStart, constantI, word_layer j hj]; omega)
  | ⟨1, _⟩ => exact Fin.ext (by simp [Host.clampedStart])
  | ⟨2, _⟩ => exact Fin.ext (by simp [Host.clampedStart])

theorem b16_at (k : Fin 1024) (n : Fin 1024) : b16 j s (ix2 k n) = s.main_v13_4 (ix3 ⟨j, hj⟩ k n) := by
  pointwise [b16, b15]
  refine congrArg s.main_v13_4 (funext fun a => ?_)
  match a with
  | ⟨0, _⟩ => exact Fin.ext (by simp [Host.clampedStart, constantI, word_layer j hj]; omega)
  | ⟨1, _⟩ => exact Fin.ext (by simp [Host.clampedStart])
  | ⟨2, _⟩ => exact Fin.ext (by simp [Host.clampedStart])

theorem b29_at (k : Fin 1024) (n : Fin 4096) : b29 j s (ix2 k n) = s.main_v13_8 (ix3 ⟨j, hj⟩ k n) := by
  pointwise [b29, b28]
  refine congrArg s.main_v13_8 (funext fun a => ?_)
  match a with
  | ⟨0, _⟩ => exact Fin.ext (by simp [Host.clampedStart, constantI, word_layer j hj]; omega)
  | ⟨1, _⟩ => exact Fin.ext (by simp [Host.clampedStart])
  | ⟨2, _⟩ => exact Fin.ext (by simp [Host.clampedStart])

theorem b36_at (k : Fin 4096) (n : Fin 1024) : b36 j s (ix2 k n) = s.main_v13_10 (ix3 ⟨j, hj⟩ k n) := by
  pointwise [b36, b35]
  refine congrArg s.main_v13_10 (funext fun a => ?_)
  match a with
  | ⟨0, _⟩ => exact Fin.ext (by simp [Host.clampedStart, constantI, word_layer j hj]; omega)
  | ⟨1, _⟩ => exact Fin.ext (by simp [Host.clampedStart])
  | ⟨2, _⟩ => exact Fin.ext (by simp [Host.clampedStart])

end Cert.Layer

end
-- ==== Proof.RefAttn.lean ====
/-
  THE REFERENCE'S ATTENTION HALF of one trip, read at a place: the layer's mathematics.
-/
module

public import proofs.«01_k».proof.Proof.Spec
public import Idealize.ShloMosaic.Lib.Tactic.CleanTypes
public import Idealize.ShloMosaic.Lib.Pointwise
public import proofs.«01_k».proof.Proof.Gen.ReferenceIdeal.Step

@[expose] public section

set_option maxRecDepth 16384

noncomputable section

namespace Cert.Layer

open Idealize.ShloMosaic Cert.ReferenceIdeal Cert.ReferenceIdeal.Step

variable (j : ℕ) (s : State Ideal)

/-- The rows the trip begins with, and its joint product. -/
abbrev hRow (b : Fin 8) : Fin 256 → Fin 1024 → EReal := fun t d => s.main_v13_14 (ix3 b t d)
abbrev qRow (b : Fin 8) : Fin 256 → Fin 3072 → EReal := fun t n => b72 j s (ix3 b t n)

theorem b68_at (b : Fin 8) (t : Fin 256) (d : Fin 1024) :
    b68 j s (ix3 b t d) = ln (hRow s b t) (fun k => b2 j s (ix1 k)) (fun k => b5 j s (ix1 k)) d := by
  rw [← ln_div]
  pointwise [b68, b67, b66, b65, b64, b63, b62, b61, b60, b59, b58, b57, b56, b55, b54, b53, b52, b51, b50, b49, b48, b47, b46, b45, b44, b43, b42, b41, b40]
  rfl

theorem b72_at (b : Fin 8) (t : Fin 256) (n : Fin 3072) :
    b72 j s (ix3 b t n) = linear (hRow s b t) (fun k => b2 j s (ix1 k)) (fun k => b5 j s (ix1 k)) (fun k n => b9 j s (ix2 k n)) (fun n => b12 j s (ix1 n)) n := by
  simp only [linear, ← b68_at]
  pointwise [b72, b71, b70, b69]

theorem b77_at (b : Fin 8) (h : Fin 16) (t : Fin 256) (x : Fin 64) :
    b77 j s (ix4 b h t x) = qRow j s b t ⟨h.val * 64 + x.val, by omega⟩ := by
  pointwise [b77, b76, b73]

theorem b79_at (b : Fin 8) (h : Fin 16) (t : Fin 256) (x : Fin 64) :
    b79 j s (ix4 b h t x) = qRow j s b t ⟨1024 + (h.val * 64 + x.val), by omega⟩ := by
  pointwise [b79, b78, b74]

theorem b82_at (b : Fin 8) (h : Fin 16) (t u : Fin 256) :
    b82 j s (ix4 b h t u) = ∑ x, b77 j s (ix4 b h t x) * b79 j s (ix4 b h u x) := by
  pointwise [b82]

theorem b85_at (b : Fin 8) (h : Fin 16) (t u : Fin 256) : b85 j s (ix4 b h t u) = score (qRow j s b) h t u := by
  rw [score]
  simp only [← b77_at, ← b79_at]
  rw [← b82_at]
  pointwise [b85, b84, b83]

/-- With no key bias the biased scores are the scores. -/
theorem b88_at (b : Fin 8) (hz : ∀ u, s.main_v13_12 (ix4 b 0 0 u) = (0 : EReal)) (h : Fin 16) (t u : Fin 256) :
    b88 j s (ix4 b h t u) = score (qRow j s b) h t u := by
  rw [← b85_at, ← add_zero (b85 j s (ix4 b h t u)), ← hz u]
  pointwise [b88, b87, b86]
  rfl

theorem b90_at (b : Fin 8) (h : Fin 16) (t : Fin 256) : b90 j s (ix3 b h t) = top (fun u => b88 j s (ix4 b h t u)) := by
  unfold b90 b89
  clean_types
  pointwise
  rfl

theorem b92_at (b : Fin 8) (h : Fin 16) (t : Fin 256) : b92 j s (ix3 b h t) = Ideal.ofBits .f32 0xFF800000#32 := by
  pointwise [b92, b91]

/-- The larger of the least number and a number is the number. -/
theorem max_floor (x y : FVec Ideal S8x16x256 .f32) (i : S8x16x256.Idx) (hx : x i = Ideal.ofBits .f32 0xFF800000#32) :
    maximumf x y i = y i := by
  show max (x i) (y i) = _
  rw [hx]
  exact max_negInf _

theorem b93_at (b : Fin 8) (h : Fin 16) (t : Fin 256) : b93 j s (ix3 b h t) = b90 j s (ix3 b h t) := by
  rw [b93]
  exact max_floor _ _ _ (b92_at j s b h t)

theorem b102_pay (b : Fin 8) (h : Fin 16) (t u : Fin 256) :
    b102 j s (ix4 b h t u) = soft (fun u => b88 j s (ix4 b h t u)) u := by
  pointwise [b102, b101, b100, b99, b98, b97, b96, b95, b94]
  simp only [b93_at, b90_at, soft]

theorem b102_at (b : Fin 8) (hz : ∀ u, s.main_v13_12 (ix4 b 0 0 u) = (0 : EReal)) (h : Fin 16) (t u : Fin 256) :
    b102 j s (ix4 b h t u) = attn (qRow j s b) h t u := by
  rw [b102_pay, attn]
  exact congrArg (fun f => soft f u) (funext fun u => b88_at j s b hz h t u)

theorem b110_pay (b : Fin 8) (t : Fin 256) (d : Fin 1024) :
    b110 j s (ix3 b t d) = s.main_v13_14 (ix3 b t d) + ∑ x : Fin 1024, (∑ u, b102 j s (ix4 b ⟨x.val / 64, by omega⟩ t u) * qRow j s b u ⟨2048 + x.val, by omega⟩) * b16 j s (ix2 x d)
      + b19 j s (ix1 d) := by
  pointwise [b110, b109, b108, b107, b106, b105, b104, b103, b81, b80, b75]

theorem b110_at (b : Fin 8) (hz : ∀ u, s.main_v13_12 (ix4 b 0 0 u) = (0 : EReal)) (t : Fin 256) (d : Fin 1024) :
    b110 j s (ix3 b t d) = proj (hRow s b) (qRow j s b) (fun k d => b16 j s (ix2 k d)) (fun d => b19 j s (ix1 d)) t d := by
  rw [b110_pay, proj]
  simp only [b102_at j s b hz, heads]

end Cert.Layer

end
-- ==== Proof.RefFf.lean ====
/-
  THE REFERENCE'S FEED-FORWARD HALF of one trip, its attention array and its pooled result, read at a place.
-/
module

public import proofs.«01_k».proof.Proof.RefAttn

@[expose] public section

set_option maxRecDepth 16384

noncomputable section

namespace Cert.Layer

open Idealize.ShloMosaic Cert.ReferenceIdeal Cert.ReferenceIdeal.Step

variable (j : ℕ) (s : State Ideal)

/-- The rows after the attention half. -/
abbrev mRow (b : Fin 8) : Fin 256 → Fin 1024 → EReal := fun t d => b110 j s (ix3 b t d)

theorem b139_at (b : Fin 8) (t : Fin 256) (d : Fin 1024) :
    b139 j s (ix3 b t d) = ln (mRow j s b t) (fun k => b22 j s (ix1 k)) (fun k => b25 j s (ix1 k)) d := by
  rw [← ln_div]
  pointwise [b139, b138, b137, b136, b135, b134, b133, b132, b131, b130, b129, b128, b127, b126, b125, b124, b123, b122, b121, b120, b119, b118, b117, b116, b115, b114, b113, b112, b111]
  rfl

theorem b143_at (b : Fin 8) (t : Fin 256) (n : Fin 4096) :
    b143 j s (ix3 b t n) = linear (mRow j s b t) (fun k => b22 j s (ix1 k)) (fun k => b25 j s (ix1 k)) (fun k n => b29 j s (ix2 k n)) (fun n => b32 j s (ix1 n)) n := by
  simp only [linear, ← b139_at]
  pointwise [b143, b142, b141, b140]

theorem b160_at (b : Fin 8) (t : Fin 256) (n : Fin 4096) : b160 j s (ix3 b t n) = gate (b143 j s (ix3 b t n)) := by
  rw [gate]
  pointwise [b160, b159, b158, b157, b156, b155, b154, b153, b152, b151, b150, b149, b148, b147, b146, b145, b144]

theorem b165_at (b : Fin 8) (t : Fin 256) (d : Fin 1024) :
    b165 j s (ix3 b t d) = feed (mRow j s b t)
      (linear (mRow j s b t) (fun k => b22 j s (ix1 k)) (fun k => b25 j s (ix1 k)) (fun k n => b29 j s (ix2 k n)) (fun n => b32 j s (ix1 n)))
      (fun n d => b36 j s (ix2 n d)) (fun d => b39 j s (ix1 d)) d := by
  simp only [feed, ← b143_at, ← b160_at]
  pointwise [b165, b164, b163, b162, b161]

/-- The pooled result: the first position of the last hidden state, normalised. -/
theorem pooled_at (w b : (⟨S1024, .f32⟩ : BufTy).Contents (Elt Ideal)) (i : Fin 8) (d : Fin 1024) :
    R_main_v39 s w b (ix2 i d) = ln (hRow s i 0) (fun k => w (ix1 k)) (fun k => b (ix1 k)) d := by
  rw [← ln_div]
  pointwise [R_main_v39]
  rfl

end Cert.Layer

end
-- ==== Proof.RefAtt.lean ====
/-
  THE REFERENCE'S ATTENTION ARRAY after one trip: the trip's own layer is replaced, every other one is kept.
-/
module

public import Idealize.ShloMosaic.Lib.Tactic.CleanTypes
public import Idealize.ShloMosaic.Lib.Pointwise
public import proofs.«01_k».proof.Proof.RefWeights

@[expose] public section

set_option maxRecDepth 16384

noncomputable section

namespace Cert.Layer

open Idealize.ShloMosaic Cert.ReferenceIdeal Cert.ReferenceIdeal.Gen Cert.ReferenceIdeal.Step

variable (j : ℕ) (hj : j < 8) (s : State Ideal)

include hj

theorem b171_at (l b : Fin 8) (h : Fin 16) (t u : Fin 256) :
    b171 j s (ix5 l b h t u) = if l.val = j then b102 j s (ix4 b h t u) else s.main_v13_15 (ix5 l b h t u) := by
  unfold b171
  clean_types
  rw [Host.dynamicUpdateSlice_apply]
  have h0 : ∀ z a, Host.clampedStart S8x8x16x256x256 S1x8x16x256x256 z (fun k =>
      BitVec.toInt ((![constantI S_ 32 (BitVec.ofNat 32 j), b167 j s, b168 j s, b169 j s, b170 j s] : Fin 5 → S_.Idx → BitVec 32) k (Shape.Idx.first h_S_))) a
        = (![j, 0, 0, 0, 0] : Fin 5 → ℕ) a := by
    intro z a
    match a with
    | ⟨0, _⟩ => simp [Host.clampedStart, constantI, word_layer j hj]; omega
    | ⟨1, _⟩ => simp [Host.clampedStart]
    | ⟨2, _⟩ => simp [Host.clampedStart]
    | ⟨3, _⟩ => simp [Host.clampedStart]
    | ⟨4, _⟩ => simp [Host.clampedStart]
  by_cases hl : l.val = j
  · rw [if_pos hl, dif_pos fun a => by
      rw [h0]
      match a with
      | ⟨0, _⟩ => exact ⟨hl.ge, by show l.val < j + 1; omega⟩
      | ⟨1, _⟩ => exact ⟨Nat.zero_le _, by show b.val < 0 + 8; omega⟩
      | ⟨2, _⟩ => exact ⟨Nat.zero_le _, by show h.val < 0 + 16; omega⟩
      | ⟨3, _⟩ => exact ⟨Nat.zero_le _, by show t.val < 0 + 256; omega⟩
      | ⟨4, _⟩ => exact ⟨Nat.zero_le _, by show u.val < 0 + 256; omega⟩]
    refine Eq.trans (congrArg (b166 j s) (?_ : _ = ix5 0 b h t u)) (by pointwise [b166])
    funext a
    match a with
    | ⟨0, _⟩ => exact Subsingleton.elim (α := Fin 1) _ _
    | ⟨1, _⟩ => exact Fin.ext (congrArg (b.val - ·) (h0 _ 1))
    | ⟨2, _⟩ => exact Fin.ext (congrArg (h.val - ·) (h0 _ 2))
    | ⟨3, _⟩ => exact Fin.ext (congrArg (t.val - ·) (h0 _ 3))
    | ⟨4, _⟩ => exact Fin.ext (congrArg (u.val - ·) (h0 _ 4))
  · rw [if_neg hl, dif_neg fun hin => hl ?_]
    have h1 := hin 0
    rw [h0] at h1
    have h2 : j ≤ l.val ∧ l.val < j + 1 := h1
    omega

end Cert.Layer

end
-- ==== Proof.Layer.lean ====
/-
  ONE LAYER OF THE KERNEL IS ONE TRIP OF THE REFERENCE: both are the layer's mathematics, of the same weights.
-/
module

public import proofs.«01_k».proof.Proof.KerAttn
public import proofs.«01_k».proof.Proof.KerFf
public import proofs.«01_k».proof.Proof.KerPool
public import proofs.«01_k».proof.Proof.RefWeights
public import proofs.«01_k».proof.Proof.RefFf
public import proofs.«01_k».proof.Proof.RefAtt

@[expose] public section

set_option maxRecDepth 16384

noncomputable section

namespace Cert.Layer

open Idealize.ShloMosaic Cert.KernelIdeal Cert.KernelIdeal.Gen Cert.ReferenceIdeal.Step

/-- The kernel's stacks and the reference's hold the same weights, and no key is masked. -/
structure Same (aw : AttnW Ideal) (fw : FfW Ideal) (s : State Ideal) : Prop where
  lw : ∀ (l : Fin 8) (d : Fin 1024), aw.lw (ix3 l 0 d) = s.main_v13_0 (ix2 l d)
  lb : ∀ (l : Fin 8) (d : Fin 1024), aw.lb (ix3 l 0 d) = s.main_v13_1 (ix2 l d)
  wq : ∀ (l : Fin 8) (k : Fin 1024) (n : Fin 3072), aw.wq (ix3 l k n) = s.main_v13_2 (ix3 l k n)
  bq : ∀ (l : Fin 8) (n : Fin 3072), aw.bq (ix3 l 0 n) = s.main_v13_3 (ix2 l n)
  wp : ∀ (l : Fin 8) (k n : Fin 1024), aw.wp (ix3 l k n) = s.main_v13_4 (ix3 l k n)
  bp : ∀ (l : Fin 8) (d : Fin 1024), aw.bp (ix3 l 0 d) = s.main_v13_5 (ix2 l d)
  mw : ∀ (l : Fin 8) (d : Fin 1024), fw.lw (ix3 l 0 d) = s.main_v13_6 (ix2 l d)
  mb : ∀ (l : Fin 8) (d : Fin 1024), fw.lb (ix3 l 0 d) = s.main_v13_7 (ix2 l d)
  wf : ∀ (l : Fin 8) (k : Fin 1024) (n : Fin 4096), fw.wf (ix3 l k n) = s.main_v13_8 (ix3 l k n)
  bf : ∀ (l : Fin 8) (n : Fin 4096), fw.bf (ix3 l 0 n) = s.main_v13_9 (ix2 l n)
  wo : ∀ (l : Fin 8) (k : Fin 4096) (n : Fin 1024), fw.wo (ix3 l k n) = s.main_v13_10 (ix3 l k n)
  bo : ∀ (l : Fin 8) (d : Fin 1024), fw.bo (ix3 l 0 d) = s.main_v13_11 (ix2 l d)
  bias : ∀ (b : Fin 8) (u : Fin 256), s.main_v13_12 (ix4 b 0 0 u) = (0 : EReal)

/-- A trip keeps the weights. -/
theorem Same.step {aw : AttnW Ideal} {fw : FfW Ideal} {s : State Ideal} (h : Same aw fw s) (n : ℕ) : Same aw fw (step n s) :=
  ⟨h.lw, h.lb, h.wq, h.bq, h.wp, h.bp, h.mw, h.mb, h.wf, h.bf, h.wo, h.bo, h.bias⟩

section
variable {aw : AttnW Ideal} {fw : FfW Ideal} {s : State Ideal} (hs : Same aw fw s) (j : ℕ) (hj : j < 8)
  (H : Vec Ideal S8x256x1024 .f32) (b : Fin 8)
include hs

/-- The joint product. -/
theorem q_eq (hH : ∀ t d, H (ix3 b t d) = s.main_v13_14 (ix3 b t d)) :
    qOf (k2_pay2 (rowOf H b) (vecL aw.lw ⟨j, hj⟩) (vecL aw.lb ⟨j, hj⟩) (wqL aw.wq ⟨j, hj⟩) (bqL aw.bq ⟨j, hj⟩)) = qRow j s b := by
  funext t n
  refine (qkv_at _ _ _ _ _ t n).trans (Eq.trans ?_ (b72_at j s b t n).symm)
  rw [show xOf (rowOf H b) t = hRow s b t from funext fun d => hH t d,
    show vOf (vecL aw.lw ⟨j, hj⟩) = fun k => b2 j s (ix1 k) from funext fun k => (hs.lw _ k).trans (b2_at j hj s k).symm,
    show vOf (vecL aw.lb ⟨j, hj⟩) = fun k => b5 j s (ix1 k) from funext fun k => (hs.lb _ k).trans (b5_at j hj s k).symm,
    show (fun (k : Fin 1024) (n : Fin 3072) => wqL aw.wq ⟨j, hj⟩ (ix3 0 k n)) = fun k n => b9 j s (ix2 k n) from
      funext fun k => funext fun n => (hs.wq _ k n).trans (b9_at j hj s k n).symm,
    show (fun n : Fin 3072 => bqL aw.bq ⟨j, hj⟩ (ix3 0 0 n)) = fun n => b12 j s (ix1 n) from funext fun n => (hs.bq _ n).trans (b12_at j hj s n).symm]

/-- The rows after the attention half. -/
theorem row_eq (hH : ∀ t d, H (ix3 b t d) = s.main_v13_14 (ix3 b t d)) (t : Fin 256) (d : Fin 1024) :
    (attnAt aw ⟨j, hj⟩ H b).1 (ix3 0 t d) = b110 j s (ix3 b t d) := by
  refine (rowBlk_at _ _ _ _ t d).trans (Eq.trans ?_ (b110_at j s b (hs.bias b) t d).symm)
  rw [q_eq hs j hj H b hH, show xOf (rowOf H b) = hRow s b from funext fun t => funext fun d => hH t d,
    show (fun k d : Fin 1024 => wpL aw.wp ⟨j, hj⟩ (ix3 0 k d)) = fun k d => b16 j s (ix2 k d) from
      funext fun k => funext fun d => (hs.wp _ k d).trans (b16_at j hj s k d).symm,
    show vOf (vecL aw.bp ⟨j, hj⟩) = fun d => b19 j s (ix1 d) from funext fun d => (hs.bp _ d).trans (b19_at j hj s d).symm]

/-- The attention. -/
theorem att_eq (hH : ∀ t d, H (ix3 b t d) = s.main_v13_14 (ix3 b t d)) (h : Fin 16) (t u : Fin 256) :
    (attnAt aw ⟨j, hj⟩ H b).2 (ix5 0 0 h t u) = b102 j s (ix4 b h t u) := by
  refine (attBlk_at _ h t u).trans (Eq.trans ?_ (b102_at j s b (hs.bias b) h t u).symm)
  rw [q_eq hs j hj H b hH]

/-- The rows after the feed-forward half. -/
theorem ff_eq (hH : ∀ t d, H (ix3 b t d) = b110 j s (ix3 b t d)) (t : Fin 256) (d : Fin 1024) :
    ffAt fw ⟨j, hj⟩ H b (ix3 0 t d) = b165 j s (ix3 b t d) := by
  refine (ffOut_at _ _ _ _ _ _ _ t d).trans (Eq.trans ?_ (b165_at j s b t d).symm)
  rw [show (fun d : Fin 1024 => rowOf H b (ix3 0 t d)) = mRow j s b t from funext fun d => hH t d,
    show (fun d : Fin 1024 => vecL fw.lw ⟨j, hj⟩ (ix3 0 0 d)) = fun k => b22 j s (ix1 k) from funext fun k => (hs.mw _ k).trans (b22_at j hj s k).symm,
    show (fun d : Fin 1024 => vecL fw.lb ⟨j, hj⟩ (ix3 0 0 d)) = fun k => b25 j s (ix1 k) from funext fun k => (hs.mb _ k).trans (b25_at j hj s k).symm,
    show (fun (k : Fin 1024) (n : Fin 4096) => wfL fw.wf ⟨j, hj⟩ (ix3 0 k n)) = fun k n => b29 j s (ix2 k n) from
      funext fun k => funext fun n => (hs.wf _ k n).trans (b29_at j hj s k n).symm,
    show (fun n : Fin 4096 => bfL fw.bf ⟨j, hj⟩ (ix3 0 0 n)) = fun n => b32 j s (ix1 n) from funext fun n => (hs.bf _ n).trans (b32_at j hj s n).symm,
    show (fun (n : Fin 4096) (d : Fin 1024) => woL fw.wo ⟨j, hj⟩ (ix3 0 n d)) = fun n d => b36 j s (ix2 n d) from
      funext fun n => funext fun d => (hs.wo _ n d).trans (b36_at j hj s n d).symm,
    show (fun d : Fin 1024 => vecL fw.bo ⟨j, hj⟩ (ix3 0 0 d)) = fun d => b39 j s (ix1 d) from funext fun d => (hs.bo _ d).trans (b39_at j hj s d).symm]

end

end Cert.Layer

end
-- ==== Proof.Layers.lean ====
/-
  ALL LAYERS, by induction on the layer: the kernel's hidden state and attention are the reference's, so the results are.
-/
module

public import proofs.«01_k».proof.Proof.Layer

@[expose] public section

set_option maxRecDepth 16384

noncomputable section

namespace Cert.Layer

open Idealize.ShloMosaic Cert.KernelIdeal Cert.KernelIdeal.Gen Cert.ReferenceIdeal.Step

theorem rowOf_ofRows (g : Fin 8 → Vec Ideal S1x256x1024 .f32) (b : Fin 8) : rowOf (ofRows g) b = g b :=
  funext fun y => ofRows_at g _ b y ⟨rfl, rfl, rfl⟩

/-- The first layer's call is the other layers' call on the hidden state with the embedding added. -/
theorem attnAt0_eq (aw : AttnW Ideal) (e : Vec Ideal S256x1024 .f32) (X : Vec Ideal S8x256x1024 .f32) (b : Fin 8) :
    attnAt0 aw e X b = attnAt aw 0 (ofRows fun b => k0_pay3 (rowOf X b) e) b := by
  unfold attnAt0 attnAt
  rw [attnOut0_eq, rowOf_ofRows]

section
variable {aw : AttnW Ideal} {fw : FfW Ideal} {e : Vec Ideal S256x1024 .f32} {X : Vec Ideal S8x256x1024 .f32} (st : ℕ → State Ideal)
  (h0 : Same aw fw (st 0)) (hst : ∀ n, st (n + 1) = step n (st n))
  (hX : ∀ (b : Fin 8) (t : Fin 256) (d : Fin 1024), (st 0).main_v13_14 (ix3 b t d) = X (ix3 b t d) + e (ix2 t d))
include h0 hst

theorem same_at : ∀ n, Same aw fw (st n)
  | 0 => h0
  | n + 1 => hst n ▸ (same_at n).step n

include hX

/-- What the attention call of layer `l` writes, for every layer whose hidden state is the reference's. -/
theorem out_of (l : ℕ) (hl : l < 8) (hH : l ≠ 0 → ∀ b t d, hidK aw fw e X l (ix3 b t d) = (st l).main_v13_14 (ix3 b t d)) (b : Fin 8) :
    (∀ t d, (outK aw fw e X l b).1 (ix3 0 t d) = b110 l (st l) (ix3 b t d))
      ∧ ∀ h t u, (outK aw fw e X l b).2 (ix5 0 0 h t u) = b102 l (st l) (ix4 b h t u) := by
  cases l with
  | zero =>
    have hH0 : ∀ t d, (ofRows fun b => k0_pay3 (rowOf X b) e) (ix3 b t d) = (st 0).main_v13_14 (ix3 b t d) :=
      fun t d => (emb_at (rowOf X b) e t d).trans (hX b t d).symm
    have he : outK aw fw e X 0 b = attnAt aw ⟨0, hl⟩ (ofRows fun b => k0_pay3 (rowOf X b) e) b := attnAt0_eq aw e X b
    rw [he]
    exact ⟨row_eq h0 0 hl _ b hH0, att_eq h0 0 hl _ b hH0⟩
  | succ l =>
    have hn : Fin.ofNat 8 (l + 1) = ⟨l + 1, hl⟩ := Fin.ext (Nat.mod_eq_of_lt hl)
    have he : outK aw fw e X (l + 1) b = attnAt aw ⟨l + 1, hl⟩ (hidK aw fw e X (l + 1)) b := by rw [← hn]; rfl
    rw [he]
    exact ⟨row_eq (same_at st h0 hst (l + 1)) (l + 1) hl _ b (hH (by omega) b), att_eq (same_at st h0 hst (l + 1)) (l + 1) hl _ b (hH (by omega) b)⟩

/-- The hidden state before layer `l`. -/
theorem hid_at : ∀ l, l ≤ 8 → l ≠ 0 → ∀ b t d, hidK aw fw e X l (ix3 b t d) = (st l).main_v13_14 (ix3 b t d)
  | 0, _, h => absurd rfl h
  | l + 1, hl, _ => fun b t d => by
    have hn : Fin.ofNat 8 l = ⟨l, hl⟩ := Fin.ext (Nat.mod_eq_of_lt hl)
    rw [hidK_succ, hn, hst l, step_main_v13_14]
    exact ff_eq (same_at st h0 hst l) l hl (midK aw fw e X l) b
      (fun t d => (out_of st h0 hst hX l hl (fun h => hid_at l (by omega) h) b).1 t d) t d

/-- What the attention call of layer `l` writes. -/
theorem out_at (l : ℕ) (hl : l < 8) (b : Fin 8) :
    (∀ t d, (outK aw fw e X l b).1 (ix3 0 t d) = b110 l (st l) (ix3 b t d))
      ∧ ∀ h t u, (outK aw fw e X l b).2 (ix5 0 0 h t u) = b102 l (st l) (ix4 b h t u) :=
  out_of st h0 hst hX l hl (fun h => hid_at st h0 hst hX l hl.le h) b

omit h0 hX in
/-- The reference's attention array keeps each layer from its trip on. -/
theorem kept_at (l b : Fin 8) (h : Fin 16) (t u : Fin 256) : ∀ n, n ≤ 8 → l.val < n →
    (st n).main_v13_15 (ix5 l b h t u) = b102 l.val (st l.val) (ix4 b h t u)
  | 0, _, hl => absurd hl (Nat.not_lt_zero _)
  | n + 1, hn, hl => by
    rw [hst n, step_main_v13_15, b171_at n hn]
    split
    · rename_i e; rw [← e]
    · exact kept_at l b h t u n (by omega) (by omega)

/-- The attention array. -/
theorem att_result (A : Vec Ideal S8x8x16x256x256 .f32) : attK aw fw e X A 7 = (st 8).main_v13_15 := by
  funext i
  obtain ⟨l, b, h, t, u, rfl⟩ : ∃ (l b : Fin 8) (h : Fin 16) (t u : Fin 256), i = ix5 l b h t u :=
    ⟨i 0, i 1, i 2, i 3, i 4, by funext a; fin_cases a <;> rfl⟩
  rw [attK_at _ _ _ _ _ _ 7 (by show l.val ≤ 7; omega)]
  exact ((out_at st h0 hst hX l.val l.isLt b).2 h t u).trans (kept_at st hst l b h t u 8 (le_refl _) l.isLt).symm

/-- The pooled result. -/
theorem pooled_result (w b : Vec Ideal S1x1024 .f32) (w' b' : Vec Ideal S1024 .f32) (hw : ∀ d, w (ix2 0 d) = w' (ix1 d)) (hb : ∀ d, b (ix2 0 d) = b' (ix1 d)) :
    shapeCast S8x1024 (ofPools fun i => poolOut (ffAt fw 7 (midK aw fw e X 7) i) w b) shapeCasts_S8x1x1024_S8x1024 = R_main_v39 (st 8) w' b' := by
  funext i
  obtain ⟨i, d, rfl⟩ : ∃ (b : Fin 8) (d : Fin 1024), i = ix2 b d := ⟨i 0, i 1, by funext a; fin_cases a <;> rfl⟩
  have hp : shapeCast S8x1024 (ofPools fun i => poolOut (ffAt fw 7 (midK aw fw e X 7) i) w b) shapeCasts_S8x1x1024_S8x1024 (ix2 i d)
      = (ofPools fun i => poolOut (ffAt fw 7 (midK aw fw e X 7) i) w b) (ix3 i 0 d) := by
    generalize (ofPools fun i => poolOut (ffAt fw 7 (midK aw fw e X 7) i) w b) = p
    pointwise
  rw [hp, pooled_at]
  refine (show _ = ln (fun d : Fin 1024 => ffAt fw 7 (midK aw fw e X 7) i (ix3 0 0 d)) (fun d : Fin 1024 => w (ix2 0 d)) (fun d : Fin 1024 => b (ix2 0 d)) d from
    poolOut_at _ w b d).trans ?_
  have hr : ∀ d, ffAt fw 7 (midK aw fw e X 7) i (ix3 0 0 d) = hRow (st 8) i 0 d := fun d => by
    have := hid_at st h0 hst hX 8 (le_refl _) (by decide) i 0 d
    rw [hidK_succ] at this
    exact this
  rw [show (fun d : Fin 1024 => ffAt fw 7 (midK aw fw e X 7) i (ix3 0 0 d)) = hRow (st 8) i 0 from funext hr,
    show (fun d : Fin 1024 => w (ix2 0 d)) = fun k => w' (ix1 k) from funext hw, show (fun d : Fin 1024 => b (ix2 0 d)) = fun k => b' (ix1 k) from funext hb]

end

end Cert.Layer

end
-- ==== Proof.RefRun.lean ====
module

public import proofs.«01_k».proof.Proof.Gen.ReferenceIdeal.Run
public import proofs.«01_k».proof.Proof.Gen.ReferenceIdeal.Step

@[expose] public section

set_option maxRecDepth 16384

/-! The reference's run as eight steps of a state.

    A valuation HOLDS a state when the loop's carried buffers are the state's fields and its counter is the trip's number.
    One trip keeps this with `step` applied: the ten values that a trip names are those of the step, one lemma each, and
    the two buffers it writes follow from them. -/

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_14 : V0 (Proc.devRef .tc main_v13_14) = s.main_v13_14
  f_15 : V0 (Proc.devRef .tc main_v13_15) = s.main_v13_15
  f_0 : V0 (Proc.devRef .tc main_v13_0) = s.main_v13_0
  f_1 : V0 (Proc.devRef .tc main_v13_1) = s.main_v13_1
  f_2 : V0 (Proc.devRef .tc main_v13_2) = s.main_v13_2
  f_3 : V0 (Proc.devRef .tc main_v13_3) = s.main_v13_3
  f_4 : V0 (Proc.devRef .tc main_v13_4) = s.main_v13_4
  f_5 : V0 (Proc.devRef .tc main_v13_5) = s.main_v13_5
  f_6 : V0 (Proc.devRef .tc main_v13_6) = s.main_v13_6
  f_7 : V0 (Proc.devRef .tc main_v13_7) = s.main_v13_7
  f_8 : V0 (Proc.devRef .tc main_v13_8) = s.main_v13_8
  f_9 : V0 (Proc.devRef .tc main_v13_9) = s.main_v13_9
  f_10 : V0 (Proc.devRef .tc main_v13_10) = s.main_v13_10
  f_11 : V0 (Proc.devRef .tc main_v13_11) = s.main_v13_11
  f_12 : V0 (Proc.devRef .tc main_v13_12) = s.main_v13_12
  n_13 : V0 (Proc.devRef .tc main_v13_13) = constantI S_ 32 (BitVec.ofNat 32 j)

variable {V0 s j}

/-- The first mean. -/
theorem r55 (h : Holds V0 s j) : res_main_while0b_v55 V0 = Step.b45 j s := by
  unfold res_main_while0b_v55
  rw [h.f_14]
  rfl

/-- The first deviation. -/
theorem r57 (h : Holds V0 s j) : res_main_while0b_v57 V0 = Step.b47 j s := by
  unfold res_main_while0b_v57
  rw [r55 h, h.f_14]
  rfl

/-- The joint projection. -/
theorem r79 (h : Holds V0 s j) : res_main_while0b_v79 V0 = Step.b72 j s := by
  unfold res_main_while0b_v79
  rw [r55 h, r57 h, h.f_14, h.n_13, h.f_0, h.f_1, h.f_2, h.f_3]
  rfl

/-- The scores. -/
theorem r94 (h : Holds V0 s j) : res_main_while0b_v94 V0 = Step.b88 j s := by
  unfold res_main_while0b_v94
  rw [r79 h, h.f_12]
  rfl

/-- The exponentials. -/
theorem r101 (h : Holds V0 s j) : res_main_while0b_v101 V0 = Step.b97 j s := by
  unfold res_main_while0b_v101
  rw [r94 h]
  rfl

/-- The attention. -/
theorem r105 (h : Holds V0 s j) : res_main_while0b_v105 V0 = Step.b102 j s := by
  unfold res_main_while0b_v105
  rw [r101 h]
  rfl

/-- The row after attention. -/
theorem r113 (h : Holds V0 s j) : res_main_while0b_v113 V0 = Step.b110 j s := by
  unfold res_main_while0b_v113
  rw [r105 h, r79 h, h.f_14, h.n_13, h.f_4, h.f_5]
  rfl

/-- Its mean. -/
theorem r117 (h : Holds V0 s j) : res_main_while0b_v117 V0 = Step.b116 j s := by
  unfold res_main_while0b_v117
  rw [r113 h]
  rfl

/-- Its deviation. -/
theorem r119 (h : Holds V0 s j) : res_main_while0b_v119 V0 = Step.b118 j s := by
  unfold res_main_while0b_v119
  rw [r113 h, r117 h]
  rfl

/-- The hidden layer. -/
theorem r141 (h : Holds V0 s j) : res_main_while0b_v141 V0 = Step.b143 j s := by
  unfold res_main_while0b_v141
  rw [r113 h, r117 h, r119 h, h.n_13, h.f_6, h.f_7, h.f_8, h.f_9]
  rfl

/-- The rows after a trip. -/
theorem step_14 (h : Holds V0 s j) : step_main_v13_14 V0 = (step j s).main_v13_14 := by
  unfold step_main_v13_14
  rw [r113 h, r141 h, h.n_13, h.f_10, h.f_11]
  rfl

/-- The attention array after a trip. -/
theorem step_15 (h : Holds V0 s j) : step_main_v13_15 V0 = (step j s).main_v13_15 := by
  unfold step_main_v13_15
  rw [r105 h, h.n_13, h.f_15]
  rfl

/-- The counter after a trip. -/
theorem step_13 (h : Holds V0 s j) : step_main_v13_13 V0 = constantI S_ 32 (BitVec.ofNat 32 (j + 1)) := by
  unfold step_main_v13_13
  rw [h.n_13]
  funext i
  show BitVec.ofNat 32 j + 1#32 = BitVec.ofNat 32 (j + 1)
  simp only [BitVec.ofNat_add]

/-- The pooled result, of a held state. -/
theorem pooled_holds (h : Holds V0 s j) {x17 x18 : (⟨S1024, .f32⟩ : BufTy).Contents (Elt F)}
    (h17 : V0 (Proc.devRef .tc main_arg17) = x17) (h18 : V0 (Proc.devRef .tc main_arg18) = x18) :
    out_main_v39 V0 = Step.R_main_v39 s x17 x18 := by
  unfold out_main_v39 Step.R_main_v39
  rw [h.f_14, h17, h18]
  rfl

/-- One trip keeps the valuation holding: `step` of the state, the same set-up values, the next number. -/
theorem holds_step (h : Holds V0 s j) : Holds (STEP V0) (step j s) (j + 1) where
  f_14 := (STEP_main_v13_14 V0).trans (step_14 h)
  f_15 := (STEP_main_v13_15 V0).trans (step_15 h)
  n_13 := (STEP_main_v13_13 V0).trans (step_13 h)
  f_0 := (STEP_main_v13_0 V0).trans h.f_0
  f_1 := (STEP_main_v13_1 V0).trans h.f_1
  f_2 := (STEP_main_v13_2 V0).trans h.f_2
  f_3 := (STEP_main_v13_3 V0).trans h.f_3
  f_4 := (STEP_main_v13_4 V0).trans h.f_4
  f_5 := (STEP_main_v13_5 V0).trans h.f_5
  f_6 := (STEP_main_v13_6 V0).trans h.f_6
  f_7 := (STEP_main_v13_7 V0).trans h.f_7
  f_8 := (STEP_main_v13_8 V0).trans h.f_8
  f_9 := (STEP_main_v13_9 V0).trans h.f_9
  f_10 := (STEP_main_v13_10 V0).trans h.f_10
  f_11 := (STEP_main_v13_11 V0).trans h.f_11
  f_12 := (STEP_main_v13_12 V0).trans h.f_12

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg0)) (m ((c.tc : Thread nD τ).loc main_arg1)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- The states of the run: `step` iterated from the initial state. -/
def stateAt : ℕ → State F
  | 0 => initState m c
  | n + 1 => step n (stateAt n)

/-- Before the `k`-th trip the valuation holds the `k`-th state. -/
theorem holds_iter : ∀ k, Holds (STEP^[k] (entryContents preI m c)) (stateAt m c k) k
  | 0 => entry_holds m c
  | k + 1 => by
    rw [Function.iterate_succ_apply']
    exact holds_step (holds_iter k)

/-- The reference's run: it ends with the two results read off the eighth state, and every argument unchanged. -/
theorem run_states (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v39) = Step.R_main_v39 (stateAt m c 8) (m ((c.tc : Thread nD τ).loc main_arg17)) (m ((c.tc : Thread nD τ).loc main_arg18))
      ∧ r.2.mem ((c.tc : Thread nD τ).loc main_v13_15) = (stateAt m c 8).main_v13_15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    have hk := holds_iter m c 8
    ⟨(h c).1.trans (pooled_holds hk (iter_main_arg17 m c 8) (iter_main_arg18 m c 8)), (h c).2.1.trans hk.f_15,
      (h c).2.2⟩) (Value.run m ρ)

end Cert.ReferenceIdeal.RefRun

end
-- ==== Proof.Entry.lean ====
/-
  WHAT THE CALLS START FROM: the host operations before the first call lay the weights out as stacks of rows and set the token in front of
  the sequence; read at an index, each is the argument's element.
-/
module

public import proofs.«01_k».proof.Proof.Chain
public import proofs.«01_k».proof.Proof.Layers
public import proofs.«01_k».proof.Proof.RefRun
public import Idealize.ShloMosaic.Lib.Tactic.CleanTypes

@[expose] public section

set_option maxRecDepth 16384

noncomputable section

namespace Cert.Layer

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-- A stack of vectors laid out as a stack of rows. -/
abbrev rows1024 (w : Vec Ideal S8x1024 .f32) : Vec Ideal S8x1x1024 .f32 := broadcastInDim S8x1x1024 ![0, 2] bcast_S8x1024_S8x1x1024_0_2 w
abbrev rows3072 (w : Vec Ideal S8x3072 .f32) : Vec Ideal S8x1x3072 .f32 := broadcastInDim S8x1x3072 ![0, 2] bcast_S8x3072_S8x1x3072_0_2 w
abbrev rows4096 (w : Vec Ideal S8x4096 .f32) : Vec Ideal S8x1x4096 .f32 := broadcastInDim S8x1x4096 ![0, 2] bcast_S8x4096_S8x1x4096_0_2 w
abbrev row1024 (w : Vec Ideal S1024 .f32) : Vec Ideal S1x1024 .f32 := broadcastInDim S1x1024 ![1] bcast_S1024_S1x1024_1 w

theorem rows1024_at (w : Vec Ideal S8x1024 .f32) (l : Fin 8) (d : Fin 1024) : rows1024 w (ix3 l 0 d) = w (ix2 l d) := by pointwise [rows1024]
theorem rows3072_at (w : Vec Ideal S8x3072 .f32) (l : Fin 8) (d : Fin 3072) : rows3072 w (ix3 l 0 d) = w (ix2 l d) := by pointwise [rows3072]
theorem rows4096_at (w : Vec Ideal S8x4096 .f32) (l : Fin 8) (d : Fin 4096) : rows4096 w (ix3 l 0 d) = w (ix2 l d) := by pointwise [rows4096]
theorem row1024_at (w : Vec Ideal S1024 .f32) (d : Fin 1024) : row1024 w (ix2 0 d) = w (ix1 d) := by pointwise [row1024]

theorem v3_eq : V1 m ρ c main_v3 = rows1024 (m ((c : Thread nD τ).loc main_arg5)) := by
  show after hostOps0 (W0 m ρ c) _ = _
  after_reads_simp
theorem v4_eq : V1 m ρ c main_v4 = rows1024 (m ((c : Thread nD τ).loc main_arg6)) := by
  show after hostOps0 (W0 m ρ c) _ = _
  after_reads_simp
theorem v5_eq : V1 m ρ c main_v5 = rows3072 (m ((c : Thread nD τ).loc main_arg8)) := by
  show after hostOps0 (W0 m ρ c) _ = _
  after_reads_simp
theorem v6_eq : V1 m ρ c main_v6 = rows1024 (m ((c : Thread nD τ).loc main_arg10)) := by
  show after hostOps0 (W0 m ρ c) _ = _
  after_reads_simp
theorem v7_eq : V1 m ρ c main_v7 = rows1024 (m ((c : Thread nD τ).loc main_arg11)) := by
  show after hostOps0 (W0 m ρ c) _ = _
  after_reads_simp
theorem v8_eq : V1 m ρ c main_v8 = rows1024 (m ((c : Thread nD τ).loc main_arg12)) := by
  show after hostOps0 (W0 m ρ c) _ = _
  after_reads_simp
theorem v9_eq : V1 m ρ c main_v9 = rows4096 (m ((c : Thread nD τ).loc main_arg14)) := by
  show after hostOps0 (W0 m ρ c) _ = _
  after_reads_simp
theorem v10_eq : V1 m ρ c main_v10 = rows1024 (m ((c : Thread nD τ).loc main_arg16)) := by
  show after hostOps0 (W0 m ρ c) _ = _
  after_reads_simp
theorem v11_eq : V1 m ρ c main_v11 = row1024 (m ((c : Thread nD τ).loc main_arg17)) := by
  show after hostOps0 (W0 m ρ c) _ = _
  after_reads_simp
theorem v12_eq : V1 m ρ c main_v12 = row1024 (m ((c : Thread nD τ).loc main_arg18)) := by
  show after hostOps0 (W0 m ρ c) _ = _
  after_reads_simp
theorem v2_eq : V1 m ρ c main_v2 = concatenate S8x256x1024 1 [⟨S8x1x1024, broadcastInDim S8x1x1024 ![0, 1, 2] bcast_S1x1x1024_S8x1x1024_0_1_2
      (broadcastInDim S1x1x1024 ![1, 2] bcast_S1x1024_S1x1x1024_1_2 (m ((c : Thread nD τ).loc main_arg3)))⟩,
      ⟨S8x255x1024, m ((c : Thread nD τ).loc main_arg0)⟩] concatenates_S8x1x1024_S8x255x1024_S8x256x1024_d1 := by
  show after hostOps0 (W0 m ρ c) _ = _
  after_reads_simp
  rfl

open Cert.ReferenceIdeal.Step in
/-- The reference adds the embedding to the same sequence. -/
theorem start_at (x0 : Vec Ideal S8x255x1024 .f32) (x1 : IVec (⟨2, ![8, 255]⟩ : Shape) 32) (x3 : Vec Ideal S1x1024 .f32) (x4 : Vec Ideal S256x1024 .f32)
    (b : Fin 8) (t : Fin 256) (d : Fin 1024) :
    A_main_v5 x0 x1 x3 x4 (ix3 b t d) = A_main_v2 x0 x1 x3 x4 (ix3 b t d) + x4 (ix2 t d) := by
  generalize h : A_main_v2 x0 x1 x3 x4 = y
  unfold A_main_v5
  rw [h]
  pointwise [A_main_v4, A_main_v3]

open Cert.ReferenceIdeal.Step in
/-- With a mask of ones no key is masked. -/
theorem bias_at (x0 : Vec Ideal S8x255x1024 .f32) (x1 : IVec (⟨2, ![8, 255]⟩ : Shape) 32) (x3 : Vec Ideal S1x1024 .f32) (x4 : Vec Ideal S256x1024 .f32)
    (h1 : ∀ i, x1 i = 1#32) (b : Fin 8) (u : Fin 256) : A_main_v11 (F := Ideal) x0 x1 x3 x4 (ix4 b 0 0 u) = (0 : EReal) := by
  have h7 : A_main_v7 (F := Ideal) x0 x1 x3 x4 (ix2 b u) = 1#32 := by
    unfold A_main_v7
    clean_types
    rw [concatenate_pair_apply]
    split
    · pointwise [K_main_v6, K_main_c]
    · exact h1 _
  have h10 : A_main_v10 (F := Ideal) x0 x1 x3 x4 (ix4 b 0 0 u) = 1#1 := by
    have : A_main_v10 (F := Ideal) x0 x1 x3 x4 (ix4 b 0 0 u) = IntOp.cmpi .eq (A_main_v7 (F := Ideal) x0 x1 x3 x4 (ix2 b u)) 1#32 := by
      generalize h : A_main_v7 (F := Ideal) x0 x1 x3 x4 = y
      unfold A_main_v10 A_main_v8
      rw [h]
      pointwise [K_main_v9, K_main_c_0]
    rw [this, h7]
    rfl
  generalize h : A_main_v10 (F := Ideal) x0 x1 x3 x4 = y at h10
  unfold A_main_v11
  rw [h]
  pointwise [K_main_call0_v0, K_main_call0_v1, K_main_cst, K_main_cst_1]
  rw [h10]
  rfl

end Cert.Layer

end
-- ==== Proof.Results.lean ====
/-
  THE RESULTS AGREE: from memories that agree on the arguments, with a mask of ones, what the kernel's last segment leaves in its two results is
  what the reference's eighth state gives.
-/
module

public import proofs.«01_k».proof.Proof.Entry

@[expose] public section

set_option maxRecDepth 16384

noncomputable section

namespace Cert.Layer

open Idealize.ShloMosaic Idealize.ShloMosaic.TcCoe Cert.KernelIdeal Cert.KernelIdeal.Gen Cert.ReferenceIdeal.RefRun

/-- From memories that agree on the arguments. -/
structure Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop where
  a0 : m' ((c.tc : Thread Cert.ReferenceIdeal.nD Cert.ReferenceIdeal.τ).loc Cert.ReferenceIdeal.main_arg0) = m ((c.tc : Thread nD τ).loc main_arg0)
  a1 : m' ((c.tc : Thread Cert.ReferenceIdeal.nD Cert.ReferenceIdeal.τ).loc Cert.ReferenceIdeal.main_arg1) = m ((c.tc : Thread nD τ).loc main_arg1)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a5 : m' ((c.tc : Thread Cert.ReferenceIdeal.nD Cert.ReferenceIdeal.τ).loc Cert.ReferenceIdeal.main_arg5) = m ((c.tc : Thread nD τ).loc main_arg5)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)
  a9 : m' ((c.tc : Thread Cert.ReferenceIdeal.nD Cert.ReferenceIdeal.τ).loc Cert.ReferenceIdeal.main_arg9) = m ((c.tc : Thread nD τ).loc main_arg9)
  a10 : m' ((c.tc : Thread Cert.ReferenceIdeal.nD Cert.ReferenceIdeal.τ).loc Cert.ReferenceIdeal.main_arg10) = m ((c.tc : Thread nD τ).loc main_arg10)
  a11 : m' ((c.tc : Thread Cert.ReferenceIdeal.nD Cert.ReferenceIdeal.τ).loc Cert.ReferenceIdeal.main_arg11) = m ((c.tc : Thread nD τ).loc main_arg11)
  a12 : m' ((c.tc : Thread Cert.ReferenceIdeal.nD Cert.ReferenceIdeal.τ).loc Cert.ReferenceIdeal.main_arg12) = m ((c.tc : Thread nD τ).loc main_arg12)
  a13 : m' ((c.tc : Thread Cert.ReferenceIdeal.nD Cert.ReferenceIdeal.τ).loc Cert.ReferenceIdeal.main_arg13) = m ((c.tc : Thread nD τ).loc main_arg13)
  a14 : m' ((c.tc : Thread Cert.ReferenceIdeal.nD Cert.ReferenceIdeal.τ).loc Cert.ReferenceIdeal.main_arg14) = m ((c.tc : Thread nD τ).loc main_arg14)
  a15 : m' ((c.tc : Thread Cert.ReferenceIdeal.nD Cert.ReferenceIdeal.τ).loc Cert.ReferenceIdeal.main_arg15) = m ((c.tc : Thread nD τ).loc main_arg15)
  a16 : m' ((c.tc : Thread Cert.ReferenceIdeal.nD Cert.ReferenceIdeal.τ).loc Cert.ReferenceIdeal.main_arg16) = m ((c.tc : Thread nD τ).loc main_arg16)
  a17 : m' ((c.tc : Thread Cert.ReferenceIdeal.nD Cert.ReferenceIdeal.τ).loc Cert.ReferenceIdeal.main_arg17) = m ((c.tc : Thread nD τ).loc main_arg17)
  a18 : m' ((c.tc : Thread Cert.ReferenceIdeal.nD Cert.ReferenceIdeal.τ).loc Cert.ReferenceIdeal.main_arg18) = m ((c.tc : Thread nD τ).loc main_arg18)
  mask : ∀ i, (m ((c.tc : Thread nD τ).loc main_arg1) : IVec S8x255 32) i = 1#32

section
variable {m : (ℓ : Loc nD τ sig) → Buf (Elt Ideal) ℓ} (ρ : Dev nD → PrngReg)
  {m' : (ℓ : Loc Cert.ReferenceIdeal.nD Cert.ReferenceIdeal.τ Cert.ReferenceIdeal.sig) → Buf (Elt Ideal) ℓ} {c : Dev nD} (h : Agree m m' c)
include h

set_option maxHeartbeats 1000000 in
theorem same_start : Same (aW m ρ c) (fW m ρ c) (stateAt m' c 0) where
  lw l d := ((congrFun (v3_eq m ρ c) _).trans (rows1024_at _ l d)).trans (congrFun h.a5.symm _)
  lb l d := ((congrFun (v4_eq m ρ c) _).trans (rows1024_at _ l d)).trans (congrFun h.a6.symm _)
  wq l k n := (congrFun (W1_args m ρ c main_arg7 (by decide)) _).trans (congrFun h.a7.symm _)
  bq l n := ((congrFun (v5_eq m ρ c) _).trans (rows3072_at _ l n)).trans (congrFun h.a8.symm _)
  wp l k n := (congrFun (W1_args m ρ c main_arg9 (by decide)) _).trans (congrFun h.a9.symm _)
  bp l d := ((congrFun (v6_eq m ρ c) _).trans (rows1024_at _ l d)).trans (congrFun h.a10.symm _)
  mw l d := ((congrFun (v7_eq m ρ c) _).trans (rows1024_at _ l d)).trans (congrFun h.a11.symm _)
  mb l d := ((congrFun (v8_eq m ρ c) _).trans (rows1024_at _ l d)).trans (congrFun h.a12.symm _)
  wf l k n := (congrFun (W1_args m ρ c main_arg13 (by decide)) _).trans (congrFun h.a13.symm _)
  bf l n := ((congrFun (v9_eq m ρ c) _).trans (rows4096_at _ l n)).trans (congrFun h.a14.symm _)
  wo l k n := (congrFun (W1_args m ρ c main_arg15 (by decide)) _).trans (congrFun h.a15.symm _)
  bo l d := ((congrFun (v10_eq m ρ c) _).trans (rows1024_at _ l d)).trans (congrFun h.a16.symm _)
  bias b u := bias_at _ _ _ _ (fun i => (congrFun h.a1 i).trans (h.mask i)) b u

theorem hidden_start (b : Fin 8) (t : Fin 256) (d : Fin 1024) :
    (stateAt m' c 0).main_v13_14 (ix3 b t d) = xW m ρ c (ix3 b t d) + eW m ρ c (ix2 t d) := by
  refine (start_at _ _ _ _ b t d).trans ?_
  rw [show xW m ρ c = Cert.ReferenceIdeal.Step.A_main_v2 (F := Ideal) (m ((c.tc : Thread nD τ).loc main_arg0)) (m ((c.tc : Thread nD τ).loc main_arg1))
      (m ((c.tc : Thread nD τ).loc main_arg3)) (m ((c.tc : Thread nD τ).loc main_arg4)) from v2_eq m ρ c,
    show eW m ρ c = m ((c.tc : Thread nD τ).loc main_arg4) from W1_args m ρ c main_arg4 (by decide), h.a0, h.a1, h.a3, h.a4]

theorem pooled_agree : W25 m ρ c (Proc.devRef .tc main_v29) = Cert.ReferenceIdeal.Step.R_main_v39 (stateAt m' c 8)
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18)) :=
  (result_pooled m ρ c).trans (pooled_result (stateAt m' c) (same_start ρ h) (fun _ => rfl) (hidden_start ρ h) _ _ _ _
    (fun d => ((congrFun (v11_eq m ρ c) _).trans (row1024_at _ d)).trans (congrFun h.a17.symm _))
    (fun d => ((congrFun (v12_eq m ρ c) _).trans (row1024_at _ d)).trans (congrFun h.a18.symm _)))

theorem att_agree : W25 m ρ c (Proc.devRef .tc main_v27_1) = (stateAt m' c 8).main_v13_15 :=
  (result_att m ρ c).trans (att_result (stateAt m' c) (same_start ρ h) (fun _ => rfl) (hidden_start ρ h) _)

end

end Cert.Layer

end
-- ==== Proof.lean ====
/-
  THE CLAIM: the kernel's program and its reference run, leave their arguments as they were and every semaphore at zero; the idealised kernel is
  the kernel's own text; and from memories that agree on the arguments, with a mask of ones, both programs end with the same two results.
-/
module

public import proofs.«01_k».proof.Defs
public import proofs.«01_k».proof.Proof.Gen.Kernel.Frame
public import proofs.«01_k».proof.Proof.KernelRun
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL.Sem

instance mask_facts : Cert.Pre_mask_ones.Facts where
  bcast_S_S8x255 := by decide

theorem one_of_eq (v : BitVec 32) (h : IntOp.cmpi .eq v 1#32 = 1#1) : v = 1#32 := by
  by_contra hv
  have h0 : IntOp.cmpi .eq v 1#32 = 0#1 := by
    show BitVec.ofBool (v == 1#32) = 0#1
    rw [beq_eq_false_iff_ne.mpr hv]
    rfl
  exact absurd (h0.symm.trans h) (by decide)

/-- The precondition says that every element of the mask is one. -/
theorem mask_one {m : (ℓ : Loc Cert.KernelIdeal.nD Cert.KernelIdeal.τ Cert.KernelIdeal.sig) → Buf (Elt Ideal) ℓ} (h : Cert.Pre_KernelIdeal_mask_ones m)
    (c : Dev Cert.KernelIdeal.nD) (i : Cert.KernelIdeal.S8x255.Idx) :
    (m ((c.tc : Thread Cert.KernelIdeal.nD Cert.KernelIdeal.τ).loc Cert.KernelIdeal.main_arg1) : IVec Cert.KernelIdeal.S8x255 32) i = 1#32 := by
  have hi := congrFun (h c) i
  generalize (m ((c.tc : Thread Cert.KernelIdeal.nD Cert.KernelIdeal.τ).loc Cert.KernelIdeal.main_arg1) : IVec Cert.KernelIdeal.S8x255 32) = x at hi ⊢
  exact one_of_eq _ hi

/-- The kernel's run, with its results read. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ (c : Dev Cert.KernelIdeal.nD) (b : Ref Cert.KernelIdeal.sig .tc), Proc.devRef .tc b ∈ Pipeline.ucRefs Cert.KernelIdeal.τ Cert.KernelIdeal.sig →
        r.2.mem ((c.tc : Thread Cert.KernelIdeal.nD Cert.KernelIdeal.τ).loc b) = Cert.KernelIdeal.Gen.W25 m ρ c (Proc.devRef .tc b) :=
  (θ_run Cert.KernelIdeal.defs _ _).mono (fun _ h c b hb => h c _ hb) (Cert.KernelIdeal.run_buffers m ρ)

open Cert.KernelIdeal Cert.KernelIdeal.Gen in
theorem algebraic : Cert.algebraic_KernelIdeal_ReferenceIdeal_pre_mask_ones := by
  intro m ρ m' ρ' hp ha
  have hag : ∀ c, Cert.Layer.Agree m m' c := fun c => by
    obtain ⟨h0, h1, -, h3, h4, h5, h6, h7, h8, h9, h10, h11, h12, h13, h14, h15, h16, h17, h18⟩ := ha c
    exact ⟨h0, h1, h3, h4, h5, h6, h7, h8, h9, h10, h11, h12, h13, h14, h15, h16, h17, h18, mask_one hp c⟩
  refine ⟨fun c => W25 m ρ c (Proc.devRef .tc main_v29), fun c => W25 m ρ c (Proc.devRef .tc main_v27_1), ?_, ?_⟩
  · refine (θ_run Cert.KernelIdeal.defs _ _).mono (fun r h c => ?_) (kernel_run m ρ)
    exact ⟨h c _ (mem_uc main_v29 (by decide)), h c _ (mem_uc main_v27_1 (by decide)),
      (h c _ (mem_uc main_arg0 (by decide))).trans (W25_main_arg0 m ρ c),
      (h c _ (mem_uc main_arg1 (by decide))).trans (W25_main_arg1 m ρ c),
      (h c _ (mem_uc main_arg2 (by decide))).trans (W25_main_arg2 m ρ c),
      (h c _ (mem_uc main_arg3 (by decide))).trans (W25_main_arg3 m ρ c),
      (h c _ (mem_uc main_arg4 (by decide))).trans (W25_main_arg4 m ρ c),
      (h c _ (mem_uc main_arg5 (by decide))).trans (W25_main_arg5 m ρ c),
      (h c _ (mem_uc main_arg6 (by decide))).trans (W25_main_arg6 m ρ c),
      (h c _ (mem_uc main_arg7 (by decide))).trans (W25_main_arg7 m ρ c),
      (h c _ (mem_uc main_arg8 (by decide))).trans (W25_main_arg8 m ρ c),
      (h c _ (mem_uc main_arg9 (by decide))).trans (W25_main_arg9 m ρ c),
      (h c _ (mem_uc main_arg10 (by decide))).trans (W25_main_arg10 m ρ c),
      (h c _ (mem_uc main_arg11 (by decide))).trans (W25_main_arg11 m ρ c),
      (h c _ (mem_uc main_arg12 (by decide))).trans (W25_main_arg12 m ρ c),
      (h c _ (mem_uc main_arg13 (by decide))).trans (W25_main_arg13 m ρ c),
      (h c _ (mem_uc main_arg14 (by decide))).trans (W25_main_arg14 m ρ c),
      (h c _ (mem_uc main_arg15 (by decide))).trans (W25_main_arg15 m ρ c),
      (h c _ (mem_uc main_arg16 (by decide))).trans (W25_main_arg16 m ρ c),
      (h c _ (mem_uc main_arg17 (by decide))).trans (W25_main_arg17 m ρ c),
      (h c _ (mem_uc main_arg18 (by decide))).trans (W25_main_arg18 m ρ c)⟩
  · refine (θ_run Cert.ReferenceIdeal.defs _ _).mono (fun r h c => ?_) (Cert.ReferenceIdeal.RefRun.run_states m' ρ')
    exact ⟨(h c).1.trans (Cert.Layer.pooled_agree ρ (hag c)).symm, (h c).2.1.trans (Cert.Layer.att_agree ρ (hag c)).symm, (h c).2.2⟩

/-- The reference's frame: its program has no semaphore at all. -/
theorem reference_frame : Cert.quiescent_ReferenceIdeal := fun m ρ _ =>
  (θ_run Cert.ReferenceIdeal.defs _ _).mono (fun _ h => ⟨fun c => (h c).2.2, sem_eq_zero_of_no_sems rfl _⟩)
    (Cert.ReferenceIdeal.RefRun.run_states m ρ)

theorem claim : Cert.Claim :=
  ⟨Cert.Kernel.Gen.facts, Cert.KernelIdeal.Gen.facts, Cert.ReferenceIdeal.Gen.facts, mask_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
